-- ==== Defs.lean ====
def Pre_Vp (m : (ℓ : Loc Cert.Vp.nD Cert.Vp.τ Cert.Vp.sig) → Buf (Elt Bits) ℓ) : Prop :=
  True

def Pre_VpIdeal (m : (ℓ : Loc Cert.VpIdeal.nD Cert.VpIdeal.τ Cert.VpIdeal.sig) → Buf (Elt Ideal) ℓ) : Prop :=
  True

def Pre_VpRefIdeal (m : (ℓ : Loc Cert.VpRefIdeal.nD Cert.VpRefIdeal.τ Cert.VpRefIdeal.sig) → Buf (Elt Ideal) ℓ) : Prop :=
  True

def Pre_Qk (m : (ℓ : Loc Cert.Qk.nD Cert.Qk.τ Cert.Qk.sig) → Buf (Elt Bits) ℓ) : Prop :=
  True

def Pre_QkIdeal (m : (ℓ : Loc Cert.QkIdeal.nD Cert.QkIdeal.τ Cert.QkIdeal.sig) → Buf (Elt Ideal) ℓ) : Prop :=
  True

def Pre_QkRefIdeal (m : (ℓ : Loc Cert.QkRefIdeal.nD Cert.QkRefIdeal.τ Cert.QkRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def quiescent_Vp [hVp : Cert.Vp.Facts] : Prop :=
  ∀ (m : (ℓ : Loc Cert.Vp.nD Cert.Vp.τ Cert.Vp.sig) → Buf (Elt Bits) ℓ) (g : Dev Cert.Vp.nD → PrngReg), Pre_Vp m →
    θ_run (Cert.Vp.defs (F := Bits)) (onTc (τ := Cert.Vp.τ) (Cert.Vp.main (F := Bits))) ⟨m, fun _ => 0, g⟩ (fun r => (∀ c : Dev Cert.Vp.nD,
      r.2.mem ((c.tc : Thread Cert.Vp.nD Cert.Vp.τ).loc Cert.Vp.main_arg0) = m ((c.tc : Thread Cert.Vp.nD Cert.Vp.τ).loc Cert.Vp.main_arg0)
      ∧ r.2.mem ((c.tc : Thread Cert.Vp.nD Cert.Vp.τ).loc Cert.Vp.main_arg1) = m ((c.tc : Thread Cert.Vp.nD Cert.Vp.τ).loc Cert.Vp.main_arg1)
      ∧ r.2.mem ((c.tc : Thread Cert.Vp.nD Cert.Vp.τ).loc Cert.Vp.main_arg2) = m ((c.tc : Thread Cert.Vp.nD Cert.Vp.τ).loc Cert.Vp.main_arg2)
      ∧ r.2.mem ((c.tc : Thread Cert.Vp.nD Cert.Vp.τ).loc Cert.Vp.main_arg3) = m ((c.tc : Thread Cert.Vp.nD Cert.Vp.τ).loc Cert.Vp.main_arg3)
      ∧ r.2.mem ((c.tc : Thread Cert.Vp.nD Cert.Vp.τ).loc Cert.Vp.main_arg4) = m ((c.tc : Thread Cert.Vp.nD Cert.Vp.τ).loc Cert.Vp.main_arg4))
      ∧ r.2.sem = fun _ => 0)

def quiescent_VpIdeal [hVpIdeal : Cert.VpIdeal.Facts] : Prop :=
  ∀ (m : (ℓ : Loc Cert.VpIdeal.nD Cert.VpIdeal.τ Cert.VpIdeal.sig) → Buf (Elt Ideal) ℓ) (g : Dev Cert.VpIdeal.nD → PrngReg), Pre_VpIdeal m →
    θ_run (Cert.VpIdeal.defs (F := Ideal)) (onTc (τ := Cert.VpIdeal.τ) (Cert.VpIdeal.main (F := Ideal))) ⟨m, fun _ => 0, g⟩ (fun r => (∀ c : Dev Cert.VpIdeal.nD,
      r.2.mem ((c.tc : Thread Cert.VpIdeal.nD Cert.VpIdeal.τ).loc Cert.VpIdeal.main_arg0) = m ((c.tc : Thread Cert.VpIdeal.nD Cert.VpIdeal.τ).loc Cert.VpIdeal.main_arg0)
      ∧ r.2.mem ((c.tc : Thread Cert.VpIdeal.nD Cert.VpIdeal.τ).loc Cert.VpIdeal.main_arg1) = m ((c.tc : Thread Cert.VpIdeal.nD Cert.VpIdeal.τ).loc Cert.VpIdeal.main_arg1)
      ∧ r.2.mem ((c.tc : Thread Cert.VpIdeal.nD Cert.VpIdeal.τ).loc Cert.VpIdeal.main_arg2) = m ((c.tc : Thread Cert.VpIdeal.nD Cert.VpIdeal.τ).loc Cert.VpIdeal.main_arg2)
      ∧ r.2.mem ((c.tc : Thread Cert.VpIdeal.nD Cert.VpIdeal.τ).loc Cert.VpIdeal.main_arg3) = m ((c.tc : Thread Cert.VpIdeal.nD Cert.VpIdeal.τ).loc Cert.VpIdeal.main_arg3)
      ∧ r.2.mem ((c.tc : Thread Cert.VpIdeal.nD Cert.VpIdeal.τ).loc Cert.VpIdeal.main_arg4) = m ((c.tc : Thread Cert.VpIdeal.nD Cert.VpIdeal.τ).loc Cert.VpIdeal.main_arg4))
      ∧ r.2.sem = fun _ => 0)

def quiescent_VpRefIdeal [hVpRefIdeal : Cert.VpRefIdeal.Facts] : Prop :=
  ∀ (m : (ℓ : Loc Cert.VpRefIdeal.nD Cert.VpRefIdeal.τ Cert.VpRefIdeal.sig) → Buf (Elt Ideal) ℓ) (g : Dev Cert.VpRefIdeal.nD → PrngReg), Pre_VpRefIdeal m →
    θ_run (Cert.VpRefIdeal.defs (F := Ideal)) (onTc (τ := Cert.VpRefIdeal.τ) (Cert.VpRefIdeal.main (F := Ideal))) ⟨m, fun _ => 0, g⟩ (fun r => (∀ c : Dev Cert.VpRefIdeal.nD,
      r.2.mem ((c.tc : Thread Cert.VpRefIdeal.nD Cert.VpRefIdeal.τ).loc Cert.VpRefIdeal.main_arg0) = m ((c.tc : Thread Cert.VpRefIdeal.nD Cert.VpRefIdeal.τ).loc Cert.VpRefIdeal.main_arg0)
      ∧ r.2.mem ((c.tc : Thread Cert.VpRefIdeal.nD Cert.VpRefIdeal.τ).loc Cert.VpRefIdeal.main_arg1) = m ((c.tc : Thread Cert.VpRefIdeal.nD Cert.VpRefIdeal.τ).loc Cert.VpRefIdeal.main_arg1)
      ∧ r.2.mem ((c.tc : Thread Cert.VpRefIdeal.nD Cert.VpRefIdeal.τ).loc Cert.VpRefIdeal.main_arg2) = m ((c.tc : Thread Cert.VpRefIdeal.nD Cert.VpRefIdeal.τ).loc Cert.VpRefIdeal.main_arg2)
      ∧ r.2.mem ((c.tc : Thread Cert.VpRefIdeal.nD Cert.VpRefIdeal.τ).loc Cert.VpRefIdeal.main_arg3) = m ((c.tc : Thread Cert.VpRefIdeal.nD Cert.VpRefIdeal.τ).loc Cert.VpRefIdeal.main_arg3)
      ∧ r.2.mem ((c.tc : Thread Cert.VpRefIdeal.nD Cert.VpRefIdeal.τ).loc Cert.VpRefIdeal.main_arg4) = m ((c.tc : Thread Cert.VpRefIdeal.nD Cert.VpRefIdeal.τ).loc Cert.VpRefIdeal.main_arg4))
      ∧ r.2.sem = fun _ => 0)

def quiescent_Qk [hQk : Cert.Qk.Facts] : Prop :=
  ∀ (m : (ℓ : Loc Cert.Qk.nD Cert.Qk.τ Cert.Qk.sig) → Buf (Elt Bits) ℓ) (g : Dev Cert.Qk.nD → PrngReg), Pre_Qk m →
    θ_run (Cert.Qk.defs (F := Bits)) (onTc (τ := Cert.Qk.τ) (Cert.Qk.main (F := Bits))) ⟨m, fun _ => 0, g⟩ (fun r => (∀ c : Dev Cert.Qk.nD,
      r.2.mem ((c.tc : Thread Cert.Qk.nD Cert.Qk.τ).loc Cert.Qk.main_arg0) = m ((c.tc : Thread Cert.Qk.nD Cert.Qk.τ).loc Cert.Qk.main_arg0)
      ∧ r.2.mem ((c.tc : Thread Cert.Qk.nD Cert.Qk.τ).loc Cert.Qk.main_arg1) = m ((c.tc : Thread Cert.Qk.nD Cert.Qk.τ).loc Cert.Qk.main_arg1)
      ∧ r.2.mem ((c.tc : Thread Cert.Qk.nD Cert.Qk.τ).loc Cert.Qk.main_arg2) = m ((c.tc : Thread Cert.Qk.nD Cert.Qk.τ).loc Cert.Qk.main_arg2)
      ∧ r.2.mem ((c.tc : Thread Cert.Qk.nD Cert.Qk.τ).loc Cert.Qk.main_arg3) = m ((c.tc : Thread Cert.Qk.nD Cert.Qk.τ).loc Cert.Qk.main_arg3)
      ∧ r.2.mem ((c.tc : Thread Cert.Qk.nD Cert.Qk.τ).loc Cert.Qk.main_arg4) = m ((c.tc : Thread Cert.Qk.nD Cert.Qk.τ).loc Cert.Qk.main_arg4)
      ∧ r.2.mem ((c.tc : Thread Cert.Qk.nD Cert.Qk.τ).loc Cert.Qk.main_arg5) = m ((c.tc : Thread Cert.Qk.nD Cert.Qk.τ).loc Cert.Qk.main_arg5)
      ∧ r.2.mem ((c.tc : Thread Cert.Qk.nD Cert.Qk.τ).loc Cert.Qk.main_arg6) = m ((c.tc : Thread Cert.Qk.nD Cert.Qk.τ).loc Cert.Qk.main_arg6)
      ∧ r.2.mem ((c.tc : Thread Cert.Qk.nD Cert.Qk.τ).loc Cert.Qk.main_arg7) = m ((c.tc : Thread Cert.Qk.nD Cert.Qk.τ).loc Cert.Qk.main_arg7)
      ∧ r.2.mem ((c.tc : Thread Cert.Qk.nD Cert.Qk.τ).loc Cert.Qk.main_arg8) = m ((c.tc : Thread Cert.Qk.nD Cert.Qk.τ).loc Cert.Qk.main_arg8))
      ∧ r.2.sem = fun _ => 0)

def quiescent_QkIdeal [hQkIdeal : Cert.QkIdeal.Facts] : Prop :=
  ∀ (m : (ℓ : Loc Cert.QkIdeal.nD Cert.QkIdeal.τ Cert.QkIdeal.sig) → Buf (Elt Ideal) ℓ) (g : Dev Cert.QkIdeal.nD → PrngReg), Pre_QkIdeal m →
    θ_run (Cert.QkIdeal.defs (F := Ideal)) (onTc (τ := Cert.QkIdeal.τ) (Cert.QkIdeal.main (F := Ideal))) ⟨m, fun _ => 0, g⟩ (fun r => (∀ c : Dev Cert.QkIdeal.nD,
      r.2.mem ((c.tc : Thread Cert.QkIdeal.nD Cert.QkIdeal.τ).loc Cert.QkIdeal.main_arg0) = m ((c.tc : Thread Cert.QkIdeal.nD Cert.QkIdeal.τ).loc Cert.QkIdeal.main_arg0)
      ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
      ∧ r.2.mem ((c.tc : Thread Cert.QkIdeal.nD Cert.QkIdeal.τ).loc Cert.QkIdeal.main_arg2) = m ((c.tc : Thread Cert.QkIdeal.nD Cert.QkIdeal.τ).loc Cert.QkIdeal.main_arg2)
      ∧ r.2.mem ((c.tc : Thread Cert.QkIdeal.nD Cert.QkIdeal.τ).loc Cert.QkIdeal.main_arg3) = m ((c.tc : Thread Cert.QkIdeal.nD Cert.QkIdeal.τ).loc Cert.QkIdeal.main_arg3)
      ∧ r.2.mem ((c.tc : Thread Cert.QkIdeal.nD Cert.QkIdeal.τ).loc Cert.QkIdeal.main_arg4) = m ((c.tc : Thread Cert.QkIdeal.nD Cert.QkIdeal.τ).loc Cert.QkIdeal.main_arg4)
      ∧ r.2.mem ((c.tc : Thread Cert.QkIdeal.nD Cert.QkIdeal.τ).loc Cert.QkIdeal.main_arg5) = m ((c.tc : Thread Cert.QkIdeal.nD Cert.QkIdeal.τ).loc Cert.QkIdeal.main_arg5)
      ∧ r.2.mem ((c.tc : Thread Cert.QkIdeal.nD Cert.QkIdeal.τ).loc Cert.QkIdeal.main_arg6) = m ((c.tc : Thread Cert.QkIdeal.nD Cert.QkIdeal.τ).loc Cert.QkIdeal.main_arg6)
      ∧ r.2.mem ((c.tc : Thread Cert.QkIdeal.nD Cert.QkIdeal.τ).loc Cert.QkIdeal.main_arg7) = m ((c.tc : Thread Cert.QkIdeal.nD Cert.QkIdeal.τ).loc Cert.QkIdeal.main_arg7)
      ∧ r.2.mem ((c.tc : Thread Cert.QkIdeal.nD Cert.QkIdeal.τ).loc Cert.QkIdeal.main_arg8) = m ((c.tc : Thread Cert.QkIdeal.nD Cert.QkIdeal.τ).loc Cert.QkIdeal.main_arg8))
      ∧ r.2.sem = fun _ => 0)

def quiescent_QkRefIdeal [hQkRefIdeal : Cert.QkRefIdeal.Facts] : Prop :=
  ∀ (m : (ℓ : Loc Cert.QkRefIdeal.nD Cert.QkRefIdeal.τ Cert.QkRefIdeal.sig) → Buf (Elt Ideal) ℓ) (g : Dev Cert.QkRefIdeal.nD → PrngReg), Pre_QkRefIdeal m →
    θ_run (Cert.QkRefIdeal.defs (F := Ideal)) (onTc (τ := Cert.QkRefIdeal.τ) (Cert.QkRefIdeal.main (F := Ideal))) ⟨m, fun _ => 0, g⟩ (fun r => (∀ c : Dev Cert.QkRefIdeal.nD,
      r.2.mem ((c.tc : Thread Cert.QkRefIdeal.nD Cert.QkRefIdeal.τ).loc Cert.QkRefIdeal.main_arg0) = m ((c.tc : Thread Cert.QkRefIdeal.nD Cert.QkRefIdeal.τ).loc Cert.QkRefIdeal.main_arg0)
      ∧ r.2.mem ((c.tc : Thread Cert.QkRefIdeal.nD Cert.QkRefIdeal.τ).loc Cert.QkRefIdeal.main_arg1) = m ((c.tc : Thread Cert.QkRefIdeal.nD Cert.QkRefIdeal.τ).loc Cert.QkRefIdeal.main_arg1)
      ∧ r.2.mem ((c.tc : Thread Cert.QkRefIdeal.nD Cert.QkRefIdeal.τ).loc Cert.QkRefIdeal.main_arg2) = m ((c.tc : Thread Cert.QkRefIdeal.nD Cert.QkRefIdeal.τ).loc Cert.QkRefIdeal.main_arg2)
      ∧ r.2.mem ((c.tc : Thread Cert.QkRefIdeal.nD Cert.QkRefIdeal.τ).loc Cert.QkRefIdeal.main_arg3) = m ((c.tc : Thread Cert.QkRefIdeal.nD Cert.QkRefIdeal.τ).loc Cert.QkRefIdeal.main_arg3)
      ∧ r.2.mem ((c.tc : Thread Cert.QkRefIdeal.nD Cert.QkRefIdeal.τ).loc Cert.QkRefIdeal.main_arg4) = m ((c.tc : Thread Cert.QkRefIdeal.nD Cert.QkRefIdeal.τ).loc Cert.QkRefIdeal.main_arg4)
      ∧ r.2.mem ((c.tc : Thread Cert.QkRefIdeal.nD Cert.QkRefIdeal.τ).loc Cert.QkRefIdeal.main_arg5) = m ((c.tc : Thread Cert.QkRefIdeal.nD Cert.QkRefIdeal.τ).loc Cert.QkRefIdeal.main_arg5)
      ∧ r.2.mem ((c.tc : Thread Cert.QkRefIdeal.nD Cert.QkRefIdeal.τ).loc Cert.QkRefIdeal.main_arg6) = m ((c.tc : Thread Cert.QkRefIdeal.nD Cert.QkRefIdeal.τ).loc Cert.QkRefIdeal.main_arg6)
      ∧ r.2.mem ((c.tc : Thread Cert.QkRefIdeal.nD Cert.QkRefIdeal.τ).loc Cert.QkRefIdeal.main_arg7) = m ((c.tc : Thread Cert.QkRefIdeal.nD Cert.QkRefIdeal.τ).loc Cert.QkRefIdeal.main_arg7)
      ∧ r.2.mem ((c.tc : Thread Cert.QkRefIdeal.nD Cert.QkRefIdeal.τ).loc Cert.QkRefIdeal.main_arg8) = m ((c.tc : Thread Cert.QkRefIdeal.nD Cert.QkRefIdeal.τ).loc Cert.QkRefIdeal.main_arg8))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8))
      ∧ r.2.sem = fun _ => 0)

def preserves_Vp_VpIdeal : Prop :=
  True

def algebraic_VpIdeal_VpRefIdeal [hVpIdeal : Cert.VpIdeal.Facts] [hVpRefIdeal : Cert.VpRefIdeal.Facts] : Prop :=
  ∀ (m : (ℓ : Loc Cert.VpIdeal.nD Cert.VpIdeal.τ Cert.VpIdeal.sig) → Buf (Elt Ideal) ℓ) (g : Dev Cert.VpIdeal.nD → PrngReg)
    (m' : (ℓ : Loc Cert.VpRefIdeal.nD Cert.VpRefIdeal.τ Cert.VpRefIdeal.sig) → Buf (Elt Ideal) ℓ) (g' : Dev Cert.VpRefIdeal.nD → PrngReg), Pre_VpIdeal m →
    (∀ c : Dev Cert.VpIdeal.nD,
      m' ((c.tc : Thread Cert.VpRefIdeal.nD Cert.VpRefIdeal.τ).loc Cert.VpRefIdeal.main_arg0) = m ((c.tc : Thread Cert.VpIdeal.nD Cert.VpIdeal.τ).loc Cert.VpIdeal.main_arg0)
      ∧ m' ((c.tc : Thread Cert.VpRefIdeal.nD Cert.VpRefIdeal.τ).loc Cert.VpRefIdeal.main_arg1) = m ((c.tc : Thread Cert.VpIdeal.nD Cert.VpIdeal.τ).loc Cert.VpIdeal.main_arg1)
      ∧ m' ((c.tc : Thread Cert.VpRefIdeal.nD Cert.VpRefIdeal.τ).loc Cert.VpRefIdeal.main_arg2) = m ((c.tc : Thread Cert.VpIdeal.nD Cert.VpIdeal.τ).loc Cert.VpIdeal.main_arg2)
      ∧ m' ((c.tc : Thread Cert.VpRefIdeal.nD Cert.VpRefIdeal.τ).loc Cert.VpRefIdeal.main_arg3) = m ((c.tc : Thread Cert.VpIdeal.nD Cert.VpIdeal.τ).loc Cert.VpIdeal.main_arg3)
      ∧ m' ((c.tc : Thread Cert.VpRefIdeal.nD Cert.VpRefIdeal.τ).loc Cert.VpRefIdeal.main_arg4) = m ((c.tc : Thread Cert.VpIdeal.nD Cert.VpIdeal.τ).loc Cert.VpIdeal.main_arg4)) →
    ∃ (v0 : (c : Dev Cert.VpIdeal.nD) → Buf (Elt Ideal) ((c.tc : Thread Cert.VpIdeal.nD Cert.VpIdeal.τ).loc Cert.VpIdeal.main_v5)),
      θ_run (Cert.VpIdeal.defs (F := Ideal)) (onTc (τ := Cert.VpIdeal.τ) (Cert.VpIdeal.main (F := Ideal))) ⟨m, fun _ => 0, g⟩ (fun r => ∀ c : Dev Cert.VpIdeal.nD,
          r.2.mem ((c.tc : Thread Cert.VpIdeal.nD Cert.VpIdeal.τ).loc Cert.VpIdeal.main_v5) = v0 c
          ∧ r.2.mem ((c.tc : Thread Cert.VpIdeal.nD Cert.VpIdeal.τ).loc Cert.VpIdeal.main_arg0) = m ((c.tc : Thread Cert.VpIdeal.nD Cert.VpIdeal.τ).loc Cert.VpIdeal.main_arg0)
          ∧ r.2.mem ((c.tc : Thread Cert.VpIdeal.nD Cert.VpIdeal.τ).loc Cert.VpIdeal.main_arg1) = m ((c.tc : Thread Cert.VpIdeal.nD Cert.VpIdeal.τ).loc Cert.VpIdeal.main_arg1)
          ∧ r.2.mem ((c.tc : Thread Cert.VpIdeal.nD Cert.VpIdeal.τ).loc Cert.VpIdeal.main_arg2) = m ((c.tc : Thread Cert.VpIdeal.nD Cert.VpIdeal.τ).loc Cert.VpIdeal.main_arg2)
          ∧ r.2.mem ((c.tc : Thread Cert.VpIdeal.nD Cert.VpIdeal.τ).loc Cert.VpIdeal.main_arg3) = m ((c.tc : Thread Cert.VpIdeal.nD Cert.VpIdeal.τ).loc Cert.VpIdeal.main_arg3)
          ∧ r.2.mem ((c.tc : Thread Cert.VpIdeal.nD Cert.VpIdeal.τ).loc Cert.VpIdeal.main_arg4) = m ((c.tc : Thread Cert.VpIdeal.nD Cert.VpIdeal.τ).loc Cert.VpIdeal.main_arg4))
      ∧ θ_run (Cert.VpRefIdeal.defs (F := Ideal)) (onTc (τ := Cert.VpRefIdeal.τ) (Cert.VpRefIdeal.main (F := Ideal))) ⟨m', fun _ => 0, g'⟩ (fun r => ∀ c : Dev Cert.VpRefIdeal.nD,
          r.2.mem ((c.tc : Thread Cert.VpRefIdeal.nD Cert.VpRefIdeal.τ).loc Cert.VpRefIdeal.main_v14) = v0 c
          ∧ r.2.mem ((c.tc : Thread Cert.VpRefIdeal.nD Cert.VpRefIdeal.τ).loc Cert.VpRefIdeal.main_arg0) = m' ((c.tc : Thread Cert.VpRefIdeal.nD Cert.VpRefIdeal.τ).loc Cert.VpRefIdeal.main_arg0)
          ∧ r.2.mem ((c.tc : Thread Cert.VpRefIdeal.nD Cert.VpRefIdeal.τ).loc Cert.VpRefIdeal.main_arg1) = m' ((c.tc : Thread Cert.VpRefIdeal.nD Cert.VpRefIdeal.τ).loc Cert.VpRefIdeal.main_arg1)
          ∧ r.2.mem ((c.tc : Thread Cert.VpRefIdeal.nD Cert.VpRefIdeal.τ).loc Cert.VpRefIdeal.main_arg2) = m' ((c.tc : Thread Cert.VpRefIdeal.nD Cert.VpRefIdeal.τ).loc Cert.VpRefIdeal.main_arg2)
          ∧ r.2.mem ((c.tc : Thread Cert.VpRefIdeal.nD Cert.VpRefIdeal.τ).loc Cert.VpRefIdeal.main_arg3) = m' ((c.tc : Thread Cert.VpRefIdeal.nD Cert.VpRefIdeal.τ).loc Cert.VpRefIdeal.main_arg3)
          ∧ r.2.mem ((c.tc : Thread Cert.VpRefIdeal.nD Cert.VpRefIdeal.τ).loc Cert.VpRefIdeal.main_arg4) = m' ((c.tc : Thread Cert.VpRefIdeal.nD Cert.VpRefIdeal.τ).loc Cert.VpRefIdeal.main_arg4))

def preserves_Qk_QkIdeal : Prop :=
  True

def algebraic_QkIdeal_QkRefIdeal [hQkIdeal : Cert.QkIdeal.Facts] [hQkRefIdeal : Cert.QkRefIdeal.Facts] : Prop :=
  ∀ (m : (ℓ : Loc Cert.QkIdeal.nD Cert.QkIdeal.τ Cert.QkIdeal.sig) → Buf (Elt Ideal) ℓ) (g : Dev Cert.QkIdeal.nD → PrngReg)
    (m' : (ℓ : Loc Cert.QkRefIdeal.nD Cert.QkRefIdeal.τ Cert.QkRefIdeal.sig) → Buf (Elt Ideal) ℓ) (g' : Dev Cert.QkRefIdeal.nD → PrngReg), Pre_QkIdeal m →
    (∀ c : Dev Cert.QkIdeal.nD,
      m' ((c.tc : Thread Cert.QkRefIdeal.nD Cert.QkRefIdeal.τ).loc Cert.QkRefIdeal.main_arg0) = m ((c.tc : Thread Cert.QkIdeal.nD Cert.QkIdeal.τ).loc Cert.QkIdeal.main_arg0)
      ∧ m' ((c.tc : Thread Cert.QkRefIdeal.nD Cert.QkRefIdeal.τ).loc Cert.QkRefIdeal.main_arg1) = m ((c.tc : Thread Cert.QkIdeal.nD Cert.QkIdeal.τ).loc Cert.QkIdeal.main_arg1)
      ∧ m' ((c.tc : Thread Cert.QkRefIdeal.nD Cert.QkRefIdeal.τ).loc Cert.QkRefIdeal.main_arg2) = m ((c.tc : Thread Cert.QkIdeal.nD Cert.QkIdeal.τ).loc Cert.QkIdeal.main_arg2)
      ∧ m' ((c.tc : Thread Cert.QkRefIdeal.nD Cert.QkRefIdeal.τ).loc Cert.QkRefIdeal.main_arg3) = m ((c.tc : Thread Cert.QkIdeal.nD Cert.QkIdeal.τ).loc Cert.QkIdeal.main_arg3)
      ∧ m' ((c.tc : Thread Cert.QkRefIdeal.nD Cert.QkRefIdeal.τ).loc Cert.QkRefIdeal.main_arg4) = m ((c.tc : Thread Cert.QkIdeal.nD Cert.QkIdeal.τ).loc Cert.QkIdeal.main_arg4)
      ∧ m' ((c.tc : Thread Cert.QkRefIdeal.nD Cert.QkRefIdeal.τ).loc Cert.QkRefIdeal.main_arg5) = m ((c.tc : Thread Cert.QkIdeal.nD Cert.QkIdeal.τ).loc Cert.QkIdeal.main_arg5)
      ∧ m' ((c.tc : Thread Cert.QkRefIdeal.nD Cert.QkRefIdeal.τ).loc Cert.QkRefIdeal.main_arg6) = m ((c.tc : Thread Cert.QkIdeal.nD Cert.QkIdeal.τ).loc Cert.QkIdeal.main_arg6)
      ∧ m' ((c.tc : Thread Cert.QkRefIdeal.nD Cert.QkRefIdeal.τ).loc Cert.QkRefIdeal.main_arg7) = m ((c.tc : Thread Cert.QkIdeal.nD Cert.QkIdeal.τ).loc Cert.QkIdeal.main_arg7)
      ∧ m' ((c.tc : Thread Cert.QkRefIdeal.nD Cert.QkRefIdeal.τ).loc Cert.QkRefIdeal.main_arg8) = m ((c.tc : Thread Cert.QkIdeal.nD Cert.QkIdeal.τ).loc Cert.QkIdeal.main_arg8)) →
    ∃ (v0 : (c : Dev Cert.QkIdeal.nD) → Buf (Elt Ideal) ((c.tc : Thread Cert.QkIdeal.nD Cert.QkIdeal.τ).loc Cert.QkIdeal.main_v24)),
      θ_run (Cert.QkIdeal.defs (F := Ideal)) (onTc (τ := Cert.QkIdeal.τ) (Cert.QkIdeal.main (F := Ideal))) ⟨m, fun _ => 0, g⟩ (fun r => ∀ c : Dev Cert.QkIdeal.nD,
          r.2.mem ((c.tc : Thread Cert.QkIdeal.nD Cert.QkIdeal.τ).loc Cert.QkIdeal.main_v24) = v0 c
          ∧ r.2.mem ((c.tc : Thread Cert.QkIdeal.nD Cert.QkIdeal.τ).loc Cert.QkIdeal.main_arg0) = m ((c.tc : Thread Cert.QkIdeal.nD Cert.QkIdeal.τ).loc Cert.QkIdeal.main_arg0)
          ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
          ∧ r.2.mem ((c.tc : Thread Cert.QkIdeal.nD Cert.QkIdeal.τ).loc Cert.QkIdeal.main_arg2) = m ((c.tc : Thread Cert.QkIdeal.nD Cert.QkIdeal.τ).loc Cert.QkIdeal.main_arg2)
          ∧ r.2.mem ((c.tc : Thread Cert.QkIdeal.nD Cert.QkIdeal.τ).loc Cert.QkIdeal.main_arg3) = m ((c.tc : Thread Cert.QkIdeal.nD Cert.QkIdeal.τ).loc Cert.QkIdeal.main_arg3)
          ∧ r.2.mem ((c.tc : Thread Cert.QkIdeal.nD Cert.QkIdeal.τ).loc Cert.QkIdeal.main_arg4) = m ((c.tc : Thread Cert.QkIdeal.nD Cert.QkIdeal.τ).loc Cert.QkIdeal.main_arg4)
          ∧ r.2.mem ((c.tc : Thread Cert.QkIdeal.nD Cert.QkIdeal.τ).loc Cert.QkIdeal.main_arg5) = m ((c.tc : Thread Cert.QkIdeal.nD Cert.QkIdeal.τ).loc Cert.QkIdeal.main_arg5)
          ∧ r.2.mem ((c.tc : Thread Cert.QkIdeal.nD Cert.QkIdeal.τ).loc Cert.QkIdeal.main_arg6) = m ((c.tc : Thread Cert.QkIdeal.nD Cert.QkIdeal.τ).loc Cert.QkIdeal.main_arg6)
          ∧ r.2.mem ((c.tc : Thread Cert.QkIdeal.nD Cert.QkIdeal.τ).loc Cert.QkIdeal.main_arg7) = m ((c.tc : Thread Cert.QkIdeal.nD Cert.QkIdeal.τ).loc Cert.QkIdeal.main_arg7)
          ∧ r.2.mem ((c.tc : Thread Cert.QkIdeal.nD Cert.QkIdeal.τ).loc Cert.QkIdeal.main_arg8) = m ((c.tc : Thread Cert.QkIdeal.nD Cert.QkIdeal.τ).loc Cert.QkIdeal.main_arg8))
      ∧ θ_run (Cert.QkRefIdeal.defs (F := Ideal)) (onTc (τ := Cert.QkRefIdeal.τ) (Cert.QkRefIdeal.main (F := Ideal))) ⟨m', fun _ => 0, g'⟩ (fun r => ∀ c : Dev Cert.QkRefIdeal.nD,
          r.2.mem ((c.tc : Thread Cert.QkRefIdeal.nD Cert.QkRefIdeal.τ).loc Cert.QkRefIdeal.main_v88) = v0 c
          ∧ r.2.mem ((c.tc : Thread Cert.QkRefIdeal.nD Cert.QkRefIdeal.τ).loc Cert.QkRefIdeal.main_arg0) = m' ((c.tc : Thread Cert.QkRefIdeal.nD Cert.QkRefIdeal.τ).loc Cert.QkRefIdeal.main_arg0)
          ∧ r.2.mem ((c.tc : Thread Cert.QkRefIdeal.nD Cert.QkRefIdeal.τ).loc Cert.QkRefIdeal.main_arg1) = m' ((c.tc : Thread Cert.QkRefIdeal.nD Cert.QkRefIdeal.τ).loc Cert.QkRefIdeal.main_arg1)
          ∧ r.2.mem ((c.tc : Thread Cert.QkRefIdeal.nD Cert.QkRefIdeal.τ).loc Cert.QkRefIdeal.main_arg2) = m' ((c.tc : Thread Cert.QkRefIdeal.nD Cert.QkRefIdeal.τ).loc Cert.QkRefIdeal.main_arg2)
          ∧ r.2.mem ((c.tc : Thread Cert.QkRefIdeal.nD Cert.QkRefIdeal.τ).loc Cert.QkRefIdeal.main_arg3) = m' ((c.tc : Thread Cert.QkRefIdeal.nD Cert.QkRefIdeal.τ).loc Cert.QkRefIdeal.main_arg3)
          ∧ r.2.mem ((c.tc : Thread Cert.QkRefIdeal.nD Cert.QkRefIdeal.τ).loc Cert.QkRefIdeal.main_arg4) = m' ((c.tc : Thread Cert.QkRefIdeal.nD Cert.QkRefIdeal.τ).loc Cert.QkRefIdeal.main_arg4)
          ∧ r.2.mem ((c.tc : Thread Cert.QkRefIdeal.nD Cert.QkRefIdeal.τ).loc Cert.QkRefIdeal.main_arg5) = m' ((c.tc : Thread Cert.QkRefIdeal.nD Cert.QkRefIdeal.τ).loc Cert.QkRefIdeal.main_arg5)
          ∧ r.2.mem ((c.tc : Thread Cert.QkRefIdeal.nD Cert.QkRefIdeal.τ).loc Cert.QkRefIdeal.main_arg6) = m' ((c.tc : Thread Cert.QkRefIdeal.nD Cert.QkRefIdeal.τ).loc Cert.QkRefIdeal.main_arg6)
          ∧ r.2.mem ((c.tc : Thread Cert.QkRefIdeal.nD Cert.QkRefIdeal.τ).loc Cert.QkRefIdeal.main_arg7) = m' ((c.tc : Thread Cert.QkRefIdeal.nD Cert.QkRefIdeal.τ).loc Cert.QkRefIdeal.main_arg7)
          ∧ r.2.mem ((c.tc : Thread Cert.QkRefIdeal.nD Cert.QkRefIdeal.τ).loc Cert.QkRefIdeal.main_arg8) = m' ((c.tc : Thread Cert.QkRefIdeal.nD Cert.QkRefIdeal.τ).loc Cert.QkRefIdeal.main_arg8))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v5_0)) (v1 : (c : Dev Cert.MlpIdeal.nD) → Buf (Elt Ideal) ((c.tc : Thread Cert.MlpIdeal.nD Cert.MlpIdeal.τ).loc Cert.MlpIdeal.main_v5_2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v5_0) = v0 c
          ∧ r.2.mem ((c.tc : Thread Cert.MlpIdeal.nD Cert.MlpIdeal.τ).loc Cert.MlpIdeal.main_v5_2) = v1 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v4_0) = v0 c
          ∧ r.2.mem ((c.tc : Thread Cert.MlpRefIdeal.nD Cert.MlpRefIdeal.τ).loc Cert.MlpRefIdeal.main_v5) = v1 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)) →
    ∃ (v0 : (c : Dev Cert.OutIdeal.nD) → Buf (Elt Ideal) ((c.tc : Thread Cert.OutIdeal.nD Cert.OutIdeal.τ).loc Cert.OutIdeal.main_v10)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v10) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v24) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8))

def Claim : Prop :=
  ∃ (hVp : Cert.Vp.Facts) (hVpIdeal : Cert.VpIdeal.Facts) (hVpRefIdeal : Cert.VpRefIdeal.Facts) (hQk : Cert.Qk.Facts) (hQkIdeal : Cert.QkIdeal.Facts) (hQkRefIdeal : Cert.QkRefIdeal.Facts) (hMlp : Cert.Mlp.Facts) (hMlpIdeal : Cert.MlpIdeal.Facts) (hMlpRefIdeal : Cert.MlpRefIdeal.Facts) (hOut : Cert.Out.Facts) (hOutIdeal : Cert.OutIdeal.Facts) (hOutRefIdeal : Cert.OutRefIdeal.Facts),
    quiescent_Vp (hVp := hVp)
    ∧ quiescent_VpIdeal (hVpIdeal := hVpIdeal)
    ∧ quiescent_VpRefIdeal (hVpRefIdeal := hVpRefIdeal)
    ∧ quiescent_Qk (hQk := hQk)
    ∧ quiescent_QkIdeal (hQkIdeal := hQkIdeal)
    ∧ quiescent_QkRefIdeal (hQkRefIdeal := hQkRefIdeal)
    ∧ quiescent_Mlp (hMlp := hMlp)
    ∧ quiescent_MlpIdeal (hMlpIdeal := hMlpIdeal)
    ∧ quiescent_MlpRefIdeal (hMlpRefIdeal := hMlpRefIdeal)
    ∧ quiescent_Out (hOut := hOut)
    ∧ quiescent_OutIdeal (hOutIdeal := hOutIdeal)
    ∧ quiescent_OutRefIdeal (hOutRefIdeal := hOutRefIdeal)
    ∧ preserves_Vp_VpIdeal
    ∧ algebraic_VpIdeal_VpRefIdeal (hVpIdeal := hVpIdeal) (hVpRefIdeal := hVpRefIdeal)
    ∧ preserves_Qk_QkIdeal
    ∧ algebraic_QkIdeal_QkRefIdeal (hQkIdeal := hQkIdeal) (hQkRefIdeal := hQkRefIdeal)
    ∧ preserves_Mlp_MlpIdeal
    ∧ algebraic_MlpIdeal_MlpRefIdeal (hMlpIdeal := hMlpIdeal) (hMlpRefIdeal := hMlpRefIdeal)
    ∧ preserves_Out_OutIdeal
    ∧ algebraic_OutIdeal_OutRefIdeal (hOutIdeal := hOutIdeal) (hOutRefIdeal := hOutRefIdeal)
-- ==== Vp.lean ====
abbrev S4x1536x3072 : Shape := ⟨3, ![4, 1536, 3072]⟩
abbrev S4x1536 : Shape := ⟨2, ![4, 1536]⟩
abbrev S3072x21504 : Shape := ⟨2, ![3072, 21504]⟩
abbrev S21504 : Shape := ⟨1, ![21504]⟩
abbrev S6144x3072 : Shape := ⟨2, ![6144, 3072]⟩
abbrev S6144x1 : Shape := ⟨2, ![6144, 1]⟩
abbrev S6144x128 : Shape := ⟨2, ![6144, 128]⟩
abbrev S1x21504 : Shape := ⟨2, ![1, 21504]⟩
abbrev S512x3072 : Shape := ⟨2, ![512, 3072]⟩
abbrev S512x128 : Shape := ⟨2, ![512, 128]⟩
abbrev S3072x1024 : Shape := ⟨2, ![3072, 1024]⟩
abbrev S1x1024 : Shape := ⟨2, ![1, 1024]⟩
abbrev S512x1024 : Shape := ⟨2, ![512, 1024]⟩
abbrev S3072x256 : Shape := ⟨2, ![3072, 256]⟩
abbrev S512x256 : Shape := ⟨2, ![512, 256]⟩
abbrev S1x128 : Shape := ⟨2, ![1, 128]⟩

abbrev nBuf : Space → Nat
  | .hbm => 11
  | .vmem => 12
  | .smem => 0
  | _ => 0

abbrev bufTy : (tb : Table) → Fin (tcTables nBuf tb) → BufTy
  | .hbm, ⟨0, _⟩ => ⟨S4x1536x3072, .fp8e4m3⟩
  | .hbm, ⟨1, _⟩ => ⟨S4x1536, .f32⟩
  | .hbm, ⟨2, _⟩ => ⟨S3072x21504, .fp8e4m3⟩
  | .hbm, ⟨3, _⟩ => ⟨S21504, .f32⟩
  | .hbm, ⟨4, _⟩ => ⟨S21504, .f32⟩
  | .hbm, ⟨5, _⟩ => ⟨S6144x3072, .fp8e4m3⟩
  | .hbm, ⟨6, _⟩ => ⟨S6144x1, .f32⟩
  | .hbm, ⟨7, _⟩ => ⟨S6144x128, .f32⟩
  | .hbm, ⟨8, _⟩ => ⟨S1x21504, .f32⟩
  | .hbm, ⟨9, _⟩ => ⟨S1x21504, .f32⟩
  | .hbm, ⟨10, _⟩ => ⟨S6144x3072, .bf16⟩
  | .local _ .vmem, ⟨0, _⟩ => ⟨S512x3072, .fp8e4m3⟩
  | .local _ .vmem, ⟨1, _⟩ => ⟨S512x3072, .fp8e4m3⟩
  | .local _ .vmem, ⟨2, _⟩ => ⟨S512x128, .f32⟩
  | .local _ .vmem, ⟨3, _⟩ => ⟨S512x128, .f32⟩
  | .local _ .vmem, ⟨4, _⟩ => ⟨S3072x1024, .fp8e4m3⟩
  | .local _ .vmem, ⟨5, _⟩ => ⟨S3072x1024, .fp8e4m3⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | _, _ => ⟨S4x1536x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![3, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg0 c6_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg0 c6_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg0 c6_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x3072 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3072x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== VpRefIdeal.lean ====
abbrev S4x1536x3072 : Shape := ⟨3, ![4, 1536, 3072]⟩
abbrev S4x1536 : Shape := ⟨2, ![4, 1536]⟩
abbrev S3072x21504 : Shape := ⟨2, ![3072, 21504]⟩
abbrev S21504 : Shape := ⟨1, ![21504]⟩
abbrev S6144x3072 : Shape := ⟨2, ![6144, 3072]⟩
abbrev S6144x21504 : Shape := ⟨2, ![6144, 21504]⟩
abbrev S4x1536x21504 : Shape := ⟨3, ![4, 1536, 21504]⟩
abbrev S4x1536x1 : Shape := ⟨3, ![4, 1536, 1]⟩
abbrev S1x1x21504 : Shape := ⟨3, ![1, 1, 21504]⟩

abbrev nBuf : Space → Nat
  | .hbm => 20
  | .vmem => 3
  | .smem => 0
  | _ => 0

abbrev bufTy : (tb : Table) → Fin (tcTables nBuf tb) → BufTy
  | .hbm, ⟨0, _⟩ => ⟨S4x1536x3072, .fp8e4m3⟩
  | .hbm, ⟨1, _⟩ => ⟨S4x1536, .f32⟩
  | .hbm, ⟨2, _⟩ => ⟨S3072x21504, .fp8e4m3⟩
  | .hbm, ⟨3, _⟩ => ⟨S21504, .f32⟩
  | .hbm, ⟨4, _⟩ => ⟨S21504, .f32⟩
  | .hbm, ⟨5, _⟩ => ⟨S6144x3072, .fp8e4m3⟩
  | .hbm, ⟨6, _⟩ => ⟨S6144x21504, .f32⟩
  | .hbm, ⟨7, _⟩ => ⟨S4x1536x21504, .f32⟩
  | .hbm, ⟨8, _⟩ => ⟨S4x1536x1, .f32⟩
  | .hbm, ⟨9, _⟩ => ⟨S4x1536x21504, .f32⟩
  | .hbm, ⟨10, _⟩ => ⟨S4x1536x21504, .f32⟩
  | .hbm, ⟨11, _⟩ => ⟨S1x1x21504, .f32⟩
  | .hbm, ⟨12, _⟩ => ⟨S4x1536x21504, .f32⟩
  | .hbm, ⟨13, _⟩ => ⟨S4x1536x21504, .f32⟩
  | .hbm, ⟨14, _⟩ => ⟨S1x1x21504, .f32⟩
  | .hbm, ⟨15, _⟩ => ⟨S4x1536x21504, .f32⟩
  | .hbm, ⟨16, _⟩ => ⟨S4x1536x21504, .f32⟩
  | .hbm, ⟨17, _⟩ => ⟨S4x1536x3072, .f32⟩
  | .hbm, ⟨18, _⟩ => ⟨S4x1536x3072, .bf16⟩
  | .hbm, ⟨19, _⟩ => ⟨S6144x3072, .bf16⟩
  | .local _ .vmem, ⟨0, _⟩ => ⟨S6144x3072, .fp8e4m3⟩
  | .local _ .vmem, ⟨1, _⟩ => ⟨S3072x21504, .fp8e4m3⟩
  | .local _ .vmem, ⟨2, _⟩ => ⟨S6144x21504, .f32⟩
  | _, _ => ⟨S4x1536x3072, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S6144x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x21504 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x21504 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Qk.lean ====
abbrev S4x1536x3072 : Shape := ⟨3, ![4, 1536, 3072]⟩
abbrev S4x1536 : Shape := ⟨2, ![4, 1536]⟩
abbrev S3072x21504 : Shape := ⟨2, ![3072, 21504]⟩
abbrev S21504 : Shape := ⟨1, ![21504]⟩
abbrev S128 : Shape := ⟨1, ![128]⟩
abbrev S4x1536x64 : Shape := ⟨3, ![4, 1536, 64]⟩
abbrev S1x128 : Shape := ⟨2, ![1, 128]⟩
abbrev S2x128 : Shape := ⟨2, ![2, 128]⟩
abbrev S2x1x128 : Shape := ⟨3, ![2, 1, 128]⟩
abbrev S_ : Shape := ⟨0, ![]⟩
abbrev S4x1536x64x2 : Shape := ⟨4, ![4, 1536, 64, 2]⟩
abbrev S4x1536x128 : Shape := ⟨3, ![4, 1536, 128]⟩
abbrev S6144x128 : Shape := ⟨2, ![6144, 128]⟩
abbrev S1x1x128 : Shape := ⟨3, ![1, 1, 128]⟩
abbrev S6144x3072 : Shape := ⟨2, ![6144, 3072]⟩
abbrev S6144x1 : Shape := ⟨2, ![6144, 1]⟩
abbrev S1x21504 : Shape := ⟨2, ![1, 21504]⟩
abbrev S6144x6144 : Shape := ⟨2, ![6144, 6144]⟩
abbrev S512x3072 : Shape := ⟨2, ![512, 3072]⟩
abbrev S512x128 : Shape := ⟨2, ![512, 128]⟩
abbrev S3072x1024 : Shape := ⟨2, ![3072, 1024]⟩
abbrev S1x1024 : Shape := ⟨2, ![1, 1024]⟩
abbrev S512x1024 : Shape := ⟨2, ![512, 1024]⟩
abbrev S8x128 : Shape := ⟨2, ![8, 128]⟩
abbrev S3072x256 : Shape := ⟨2, ![3072, 256]⟩
abbrev S512x256 : Shape := ⟨2, ![512, 256]⟩
abbrev S512 : Shape := ⟨1, ![512]⟩
abbrev S512x1 : Shape := ⟨2, ![512, 1]⟩

abbrev nBuf : Space → Nat
  | .hbm => 60
  | .vmem => 18
  | .smem => 0
  | _ => 0

abbrev bufTy : (tb : Table) → Fin (tcTables nBuf tb) → BufTy
  | .hbm, ⟨0, _⟩ => ⟨S4x1536x3072, .fp8e4m3⟩
  | .hbm, ⟨1, _⟩ => ⟨S4x1536, .f32⟩
  | .hbm, ⟨2, _⟩ => ⟨S3072x21504, .fp8e4m3⟩
  | .hbm, ⟨3, _⟩ => ⟨S21504, .f32⟩
  | .hbm, ⟨4, _⟩ => ⟨S21504, .f32⟩
  | .hbm, ⟨5, _⟩ => ⟨S128, .f32⟩
  | .hbm, ⟨6, _⟩ => ⟨S128, .f32⟩
  | .hbm, ⟨7, _⟩ => ⟨S4x1536x64, .f32⟩
  | .hbm, ⟨8, _⟩ => ⟨S4x1536x64, .f32⟩
  | .hbm, ⟨9, _⟩ => ⟨S1x128, .f32⟩
  | .hbm, ⟨10, _⟩ => ⟨S1x128, .f32⟩
  | .hbm, ⟨11, _⟩ => ⟨S2x128, .f32⟩
  | .hbm, ⟨12, _⟩ => ⟨S2x1x128, .f32⟩
  | .hbm, ⟨13, _⟩ => ⟨S128, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S128, .i32⟩
  | .hbm, ⟨21, _⟩ => ⟨S128, .i32⟩
  | .hbm, ⟨22, _⟩ => ⟨S_, .i32⟩
  | .hbm, ⟨23, _⟩ => ⟨S128, .i32⟩
  | .hbm, ⟨24, _⟩ => ⟨S128, .i1⟩
  | .hbm, ⟨25, _⟩ => ⟨S_, .i32⟩
  | .hbm, ⟨26, _⟩ => ⟨S128, .i32⟩
  | .hbm, ⟨27, _⟩ => ⟨S128, .i1⟩
  | .hbm, ⟨28, _⟩ => ⟨S_, .i32⟩
  | .hbm, ⟨29, _⟩ => ⟨S_, .i1⟩
  | .hbm, ⟨30, _⟩ => ⟨S128, .i1⟩
  | .hbm, ⟨31, _⟩ => ⟨S128, .i1⟩
  | .hbm, ⟨32, _⟩ => ⟨S128, .i1⟩
  | .hbm, ⟨33, _⟩ => ⟨S128, .i32⟩
  | .hbm, ⟨34, _⟩ => ⟨S128, .i32⟩
  | .hbm, ⟨35, _⟩ => ⟨S128, .i32⟩
  | .hbm, ⟨36, _⟩ => ⟨S_, .i32⟩
  | .hbm, ⟨37, _⟩ => ⟨S128, .i32⟩
  | .hbm, ⟨38, _⟩ => ⟨S128, .i1⟩
  | .hbm, ⟨39, _⟩ => ⟨S_, .f32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S128, .f32⟩
  | .hbm, ⟨44, _⟩ => ⟨S128, .f32⟩
  | .hbm, ⟨45, _⟩ => ⟨S4x1536x64x2, .f32⟩
  | .hbm, ⟨46, _⟩ => ⟨S4x1536x128, .f32⟩
  | .hbm, ⟨47, _⟩ => ⟨S6144x128, .f32⟩
  | .hbm, ⟨48, _⟩ => ⟨S4x1536x64x2, .f32⟩
  | .hbm, ⟨49, _⟩ => ⟨S4x1536x128, .f32⟩
  | .hbm, ⟨50, _⟩ => ⟨S1x1x128, .f32⟩
  | .hbm, ⟨51, _⟩ => ⟨S4x1536x128, .f32⟩
  | .hbm, ⟨52, _⟩ => ⟨S4x1536x128, .f32⟩
  | .hbm, ⟨53, _⟩ => ⟨S6144x128, .f32⟩
  | .hbm, ⟨54, _⟩ => ⟨S6144x3072, .fp8e4m3⟩
  | .hbm, ⟨55, _⟩ => ⟨S6144x1, .f32⟩
  | .hbm, ⟨56, _⟩ => ⟨S6144x128, .f32⟩
  | .hbm, ⟨57, _⟩ => ⟨S1x21504, .f32⟩
  | .hbm, ⟨58, _⟩ => ⟨S1x21504, .f32⟩
  | .hbm, ⟨59, _⟩ => ⟨S6144x6144, .bf16⟩
  | .local _ .vmem, ⟨0, _⟩ => ⟨S512x3072, .fp8e4m3⟩
  | .local _ .vmem, ⟨1, _⟩ => ⟨S512x3072, .fp8e4m3⟩
  | .local _ .vmem, ⟨2, _⟩ => ⟨S512x128, .f32⟩
  | .local _ .vmem, ⟨3, _⟩ => ⟨S512x128, .f32⟩
  | .local _ .vmem, ⟨4, _⟩ => ⟨S3072x1024, .fp8e4m3⟩
  | .local _ .vmem, ⟨5, _⟩ => ⟨S3072x1024, .fp8e4m3⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1x128, .f32⟩
  | .local _ .vmem, ⟨11, _⟩ => ⟨S1x1x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x1024, .bf16⟩
  | .local _ .vmem, ⟨17, _⟩ => ⟨S512x1024, .bf16⟩
  | _, _ => ⟨S4x1536x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v5 : Ref sig .tc := ⟨.hbm, 35, rfl⟩
abbrev main_c_0 : Ref sig .tc := ⟨.hbm, 36, rfl⟩
abbrev main_v6 : Ref sig .tc := ⟨.hbm, 37, rfl⟩
abbrev main_v7 : Ref sig .tc := ⟨.hbm, 38, rfl⟩
abbrev main_cst : Ref sig .tc := ⟨.hbm, 39, rfl⟩
abbrev main_cst_1 : Ref sig .tc := ⟨.hbm, 40, rfl⟩
abbrev main_call1_v0 : Ref sig .tc := ⟨.hbm, 41, rfl⟩
abbrev main_call1_v1 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![6, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x3072 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3072x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== QkRefIdeal.lean ====
abbrev S4x1536x3072 : Shape := ⟨3, ![4, 1536, 3072]⟩
abbrev S4x1536 : Shape := ⟨2, ![4, 1536]⟩
abbrev S3072x21504 : Shape := ⟨2, ![3072, 21504]⟩
abbrev S21504 : Shape := ⟨1, ![21504]⟩
abbrev S128 : Shape := ⟨1, ![128]⟩
abbrev S4x1536x64 : Shape := ⟨3, ![4, 1536, 64]⟩
abbrev S6144x3072 : Shape := ⟨2, ![6144, 3072]⟩
abbrev S6144x21504 : Shape := ⟨2, ![6144, 21504]⟩
abbrev S4x1536x21504 : Shape := ⟨3, ![4, 1536, 21504]⟩
abbrev S4x1536x1 : Shape := ⟨3, ![4, 1536, 1]⟩
abbrev S1x1x21504 : Shape := ⟨3, ![1, 1, 21504]⟩
abbrev S4x1536x24x128 : Shape := ⟨4, ![4, 1536, 24, 128]⟩
abbrev S_ : Shape := ⟨0, ![]⟩
abbrev S4x1536x24 : Shape := ⟨3, ![4, 1536, 24]⟩
abbrev S4x1536x24x1 : Shape := ⟨4, ![4, 1536, 24, 1]⟩
abbrev S1x1x1x128 : Shape := ⟨4, ![1, 1, 1, 128]⟩
abbrev S4x1536x24x64x2 : Shape := ⟨5, ![4, 1536, 24, 64, 2]⟩
abbrev S4x1536x24x64x1 : Shape := ⟨5, ![4, 1536, 24, 64, 1]⟩
abbrev S4x1536x24x64 : Shape := ⟨4, ![4, 1536, 24, 64]⟩
abbrev S4x1536x1x64 : Shape := ⟨4, ![4, 1536, 1, 64]⟩
abbrev S6144x6144 : Shape := ⟨2, ![6144, 6144]⟩

abbrev nBuf : Space → Nat
  | .hbm => 104
  | .vmem => 3
  | .smem => 0
  | _ => 0

abbrev bufTy : (tb : Table) → Fin (tcTables nBuf tb) → BufTy
  | .hbm, ⟨0, _⟩ => ⟨S4x1536x3072, .fp8e4m3⟩
  | .hbm, ⟨1, _⟩ => ⟨S4x1536, .f32⟩
  | .hbm, ⟨2, _⟩ => ⟨S3072x21504, .fp8e4m3⟩
  | .hbm, ⟨3, _⟩ => ⟨S21504, .f32⟩
  | .hbm, ⟨4, _⟩ => ⟨S21504, .f32⟩
  | .hbm, ⟨5, _⟩ => ⟨S128, .f32⟩
  | .hbm, ⟨6, _⟩ => ⟨S128, .f32⟩
  | .hbm, ⟨7, _⟩ => ⟨S4x1536x64, .f32⟩
  | .hbm, ⟨8, _⟩ => ⟨S4x1536x64, .f32⟩
  | .hbm, ⟨9, _⟩ => ⟨S6144x3072, .fp8e4m3⟩
  | .hbm, ⟨10, _⟩ => ⟨S6144x21504, .f32⟩
  | .hbm, ⟨11, _⟩ => ⟨S4x1536x21504, .f32⟩
  | .hbm, ⟨12, _⟩ => ⟨S4x1536x1, .f32⟩
  | .hbm, ⟨13, _⟩ => ⟨S4x1536x21504, .f32⟩
  | .hbm, ⟨14, _⟩ => ⟨S4x1536x21504, .f32⟩
  | .hbm, ⟨15, _⟩ => ⟨S1x1x21504, .f32⟩
  | .hbm, ⟨16, _⟩ => ⟨S4x1536x21504, .f32⟩
  | .hbm, ⟨17, _⟩ => ⟨S4x1536x21504, .f32⟩
  | .hbm, ⟨18, _⟩ => ⟨S1x1x21504, .f32⟩
  | .hbm, ⟨19, _⟩ => ⟨S4x1536x21504, .f32⟩
  | .hbm, ⟨20, _⟩ => ⟨S4x1536x21504, .f32⟩
  | .hbm, ⟨21, _⟩ => ⟨S4x1536x3072, .f32⟩
  | .hbm, ⟨22, _⟩ => ⟨S4x1536x24x128, .f32⟩
  | .hbm, ⟨23, _⟩ => ⟨S4x1536x3072, .f32⟩
  | .hbm, ⟨24, _⟩ => ⟨S4x1536x24x128, .f32⟩
  | .hbm, ⟨25, _⟩ => ⟨S4x1536x24x128, .f32⟩
  | .hbm, ⟨26, _⟩ => ⟨S_, .f32⟩
  | .hbm, ⟨27, _⟩ => ⟨S4x1536x24, .f32⟩
  | .hbm, ⟨28, _⟩ => ⟨S4x1536x24x1, .f32⟩
  | .hbm, ⟨29, _⟩ => ⟨S_, .f32⟩
  | .hbm, ⟨30, _⟩ => ⟨S4x1536x24x1, .f32⟩
  | .hbm, ⟨31, _⟩ => ⟨S4x1536x24x1, .f32⟩
  | .hbm, ⟨32, _⟩ => ⟨S_, .f32⟩
  | .hbm, ⟨33, _⟩ => ⟨S4x1536x24x1, .f32⟩
  | .hbm, ⟨34, _⟩ => ⟨S4x1536x24x1, .f32⟩
  | .hbm, ⟨35, _⟩ => ⟨S4x1536x24x1, .f32⟩
  | .hbm, ⟨36, _⟩ => ⟨S4x1536x24x128, .f32⟩
  | .hbm, ⟨37, _⟩ => ⟨S4x1536x24x128, .f32⟩
  | .hbm, ⟨38, _⟩ => ⟨S1x1x1x128, .f32⟩
  | .hbm, ⟨39, _⟩ => ⟨S4x1536x24x128, .f32⟩
  | .hbm, ⟨40, _⟩ => ⟨S4x1536x24x128, .f32⟩
  | .hbm, ⟨41, _⟩ => ⟨S4x1536x24x64x2, .f32⟩
  | .hbm, ⟨42, _⟩ => ⟨S4x1536x24x64x1, .f32⟩
  | .hbm, ⟨43, _⟩ => ⟨S4x1536x24x64, .f32⟩
  | .hbm, ⟨44, _⟩ => ⟨S4x1536x24x64x1, .f32⟩
  | .hbm, ⟨45, _⟩ => ⟨S4x1536x24x64, .f32⟩
  | .hbm, ⟨46, _⟩ => ⟨S4x1536x1x64, .f32⟩
  | .hbm, ⟨47, _⟩ => ⟨S4x1536x1x64, .f32⟩
  | .hbm, ⟨48, _⟩ => ⟨S4x1536x24x64, .f32⟩
  | .hbm, ⟨49, _⟩ => ⟨S4x1536x24x64, .f32⟩
  | .hbm, ⟨50, _⟩ => ⟨S4x1536x24x64, .f32⟩
  | .hbm, ⟨51, _⟩ => ⟨S4x1536x24x64, .f32⟩
  | .hbm, ⟨52, _⟩ => ⟨S4x1536x24x64, .f32⟩
  | .hbm, ⟨53, _⟩ => ⟨S4x1536x24x64, .f32⟩
  | .hbm, ⟨54, _⟩ => ⟨S4x1536x24x64, .f32⟩
  | .hbm, ⟨55, _⟩ => ⟨S4x1536x24x64, .f32⟩
  | .hbm, ⟨56, _⟩ => ⟨S4x1536x24x64, .f32⟩
  | .hbm, ⟨57, _⟩ => ⟨S4x1536x24x64, .f32⟩
  | .hbm, ⟨58, _⟩ => ⟨S4x1536x24x64x1, .f32⟩
  | .hbm, ⟨59, _⟩ => ⟨S4x1536x24x64x1, .f32⟩
  | .hbm, ⟨60, _⟩ => ⟨S4x1536x24x64x2, .f32⟩
  | .hbm, ⟨61, _⟩ => ⟨S4x1536x24x128, .f32⟩
  | .hbm, ⟨62, _⟩ => ⟨S4x1536x24x128, .bf16⟩
  | .hbm, ⟨63, _⟩ => ⟨S4x1536x24x128, .f32⟩
  | .hbm, ⟨64, _⟩ => ⟨S_, .f32⟩
  | .hbm, ⟨65, _⟩ => ⟨S4x1536x24, .f32⟩
  | .hbm, ⟨66, _⟩ => ⟨S4x1536x24x1, .f32⟩
  | .hbm, ⟨67, _⟩ => ⟨S_, .f32⟩
  | .hbm, ⟨68, _⟩ => ⟨S4x1536x24x1, .f32⟩
  | .hbm, ⟨69, _⟩ => ⟨S4x1536x24x1, .f32⟩
  | .hbm, ⟨70, _⟩ => ⟨S_, .f32⟩
  | .hbm, ⟨71, _⟩ => ⟨S4x1536x24x1, .f32⟩
  | .hbm, ⟨72, _⟩ => ⟨S4x1536x24x1, .f32⟩
  | .hbm, ⟨73, _⟩ => ⟨S4x1536x24x1, .f32⟩
  | .hbm, ⟨74, _⟩ => ⟨S4x1536x24x128, .f32⟩
  | .hbm, ⟨75, _⟩ => ⟨S4x1536x24x128, .f32⟩
  | .hbm, ⟨76, _⟩ => ⟨S1x1x1x128, .f32⟩
  | .hbm, ⟨77, _⟩ => ⟨S4x1536x24x128, .f32⟩
  | .hbm, ⟨78, _⟩ => ⟨S4x1536x24x128, .f32⟩
  | .hbm, ⟨79, _⟩ => ⟨S4x1536x24x64x2, .f32⟩
  | .hbm, ⟨80, _⟩ => ⟨S4x1536x24x64x1, .f32⟩
  | .hbm, ⟨81, _⟩ => ⟨S4x1536x24x64, .f32⟩
  | .hbm, ⟨82, _⟩ => ⟨S4x1536x24x64x1, .f32⟩
  | .hbm, ⟨83, _⟩ => ⟨S4x1536x24x64, .f32⟩
  | .hbm, ⟨84, _⟩ => ⟨S4x1536x1x64, .f32⟩
  | .hbm, ⟨85, _⟩ => ⟨S4x1536x1x64, .f32⟩
  | .hbm, ⟨86, _⟩ => ⟨S4x1536x24x64, .f32⟩
  | .hbm, ⟨87, _⟩ => ⟨S4x1536x24x64, .f32⟩
  | .hbm, ⟨88, _⟩ => ⟨S4x1536x24x64, .f32⟩
  | .hbm, ⟨89, _⟩ => ⟨S4x1536x24x64, .f32⟩
  | .hbm, ⟨90, _⟩ => ⟨S4x1536x24x64, .f32⟩
  | .hbm, ⟨91, _⟩ => ⟨S4x1536x24x64, .f32⟩
  | .hbm, ⟨92, _⟩ => ⟨S4x1536x24x64, .f32⟩
  | .hbm, ⟨93, _⟩ => ⟨S4x1536x24x64, .f32⟩
  | .hbm, ⟨94, _⟩ => ⟨S4x1536x24x64, .f32⟩
  | .hbm, ⟨95, _⟩ => ⟨S4x1536x24x64, .f32⟩
  | .hbm, ⟨96, _⟩ => ⟨S4x1536x24x64x1, .f32⟩
  | .hbm, ⟨97, _⟩ => ⟨S4x1536x24x64x1, .f32⟩
  | .hbm, ⟨98, _⟩ => ⟨S4x1536x24x64x2, .f32⟩
  | .hbm, ⟨99, _⟩ => ⟨S4x1536x24x128, .f32⟩
  | .hbm, ⟨100, _⟩ => ⟨S4x1536x24x128, .bf16⟩
  | .hbm, ⟨101, _⟩ => ⟨S6144x3072, .bf16⟩
  | .hbm, ⟨102, _⟩ => ⟨S6144x3072, .bf16⟩
  | .hbm, ⟨103, _⟩ => ⟨S6144x6144, .bf16⟩
  | .local _ .vmem, ⟨0, _⟩ => ⟨S6144x3072, .fp8e4m3⟩
  | .local _ .vmem, ⟨1, _⟩ => ⟨S3072x21504, .fp8e4m3⟩
  | .local _ .vmem, ⟨2, _⟩ => ⟨S6144x21504, .f32⟩
  | _, _ => ⟨S4x1536x3072, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_2 : Ref sig .tc := ⟨.hbm, 64, rfl⟩
abbrev main_v52 : Ref sig .tc := ⟨.hbm, 65, rfl⟩
abbrev main_v53 : Ref sig .tc := ⟨.hbm, 66, rfl⟩
abbrev main_cst_3 : Ref sig .tc := ⟨.hbm, 67, rfl⟩
abbrev main_v54 : Ref sig .tc := ⟨.hbm, 68, rfl⟩
abbrev main_v55 : Ref sig .tc := ⟨.hbm, 69, rfl⟩
abbrev main_cst_4 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S6144x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x21504 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x21504 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Mlp.lean ====
abbrev S4x1536x3072 : Shape := ⟨3, ![4, 1536, 3072]⟩
abbrev S4x1536 : Shape := ⟨2, ![4, 1536]⟩
abbrev S3072x21504 : Shape := ⟨2, ![3072, 21504]⟩
abbrev S21504 : Shape := ⟨1, ![21504]⟩
abbrev S6144x3072 : Shape := ⟨2, ![6144, 3072]⟩
abbrev S6144x1 : Shape := ⟨2, ![6144, 1]⟩
abbrev S6144x128 : Shape := ⟨2, ![6144, 128]⟩
abbrev S1x21504 : Shape := ⟨2, ![1, 21504]⟩
abbrev S6144x12288 : Shape := ⟨2, ![6144, 12288]⟩
abbrev S8x1x768 : Shape := ⟨3, ![8, 1, 768]⟩
abbrev S768x3072 : Shape := ⟨2, ![768, 3072]⟩
abbrev S768x128 : Shape := ⟨2, ![768, 128]⟩
abbrev S3072x1024 : Shape := ⟨2, ![3072, 1024]⟩
abbrev S1x1024 : Shape := ⟨2, ![1, 1024]⟩
abbrev S768x1024 : Shape := ⟨2, ![768, 1024]⟩
abbrev S1x1x768 : Shape := ⟨3, ![1, 1, 768]⟩
abbrev S12x768x1024 : Shape := ⟨3, ![12, 768, 1024]⟩
abbrev S1x768x128 : Shape := ⟨3, ![1, 768, 128]⟩
abbrev S3072x256 : Shape := ⟨2, ![3072, 256]⟩
abbrev S768x256 : Shape := ⟨2, ![768, 256]⟩
abbrev S1x128 : Shape := ⟨2, ![1, 128]⟩
abbrev S768 : Shape := ⟨1, ![768]⟩
abbrev S768x1 : Shape := ⟨2, ![768, 1]⟩
abbrev S128x768 : Shape := ⟨2, ![128, 768]⟩
abbrev S1x768 : Shape := ⟨2, ![1, 768]⟩

abbrev nBuf : Space → Nat
  | .hbm => 13
  | .vmem => 19
  | .smem => 0
  | _ => 0

abbrev bufTy : (tb : Table) → Fin (tcTables nBuf tb) → BufTy
  | .hbm, ⟨0, _⟩ => ⟨S4x1536x3072, .fp8e4m3⟩
  | .hbm, ⟨1, _⟩ => ⟨S4x1536, .f32⟩
  | .hbm, ⟨2, _⟩ => ⟨S3072x21504, .fp8e4m3⟩
  | .hbm, ⟨3, _⟩ => ⟨S21504, .f32⟩
  | .hbm, ⟨4, _⟩ => ⟨S21504, .f32⟩
  | .hbm, ⟨5, _⟩ => ⟨S6144x3072, .fp8e4m3⟩
  | .hbm, ⟨6, _⟩ => ⟨S6144x1, .f32⟩
  | .hbm, ⟨7, _⟩ => ⟨S6144x128, .f32⟩
  | .hbm, ⟨8, _⟩ => ⟨S1x21504, .f32⟩
  | .hbm, ⟨9, _⟩ => ⟨S1x21504, .f32⟩
  | .hbm, ⟨10, _⟩ => ⟨S6144x12288, .fp8e4m3⟩
  | .hbm, ⟨11, _⟩ => ⟨S6144x128, .f32⟩
  | .hbm, ⟨12, _⟩ => ⟨S8x1x768, .f32⟩
  | .local _ .vmem, ⟨0, _⟩ => ⟨S768x3072, .fp8e4m3⟩
  | .local _ .vmem, ⟨1, _⟩ => ⟨S768x3072, .fp8e4m3⟩
  | .local _ .vmem, ⟨2, _⟩ => ⟨S768x128, .f32⟩
  | .local _ .vmem, ⟨3, _⟩ => ⟨S768x128, .f32⟩
  | .local _ .vmem, ⟨4, _⟩ => ⟨S3072x1024, .fp8e4m3⟩
  | .local _ .vmem, ⟨5, _⟩ => ⟨S3072x1024, .fp8e4m3⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S768x1024, .fp8e4m3⟩
  | .local _ .vmem, ⟨11, _⟩ => ⟨S768x1024, .fp8e4m3⟩
  | .local _ .vmem, ⟨12, _⟩ => ⟨S768x128, .f32⟩
  | .local _ .vmem, ⟨13, _⟩ => ⟨S768x128, .f32⟩
  | .local _ .vmem, ⟨14, _⟩ => ⟨S1x1x768, .f32⟩
  | .local _ .vmem, ⟨15, _⟩ => ⟨S1x1x768, .f32⟩
  | .local _ .vmem, ⟨16, _⟩ => ⟨S12x768x1024, .f32⟩
  | .local _ .vmem, ⟨17, _⟩ => ⟨S768x128, .f32⟩
  | .local _ .vmem, ⟨18, _⟩ => ⟨S768x128, .f32⟩
  | _, _ => ⟨S4x1536x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![9, 12], ![false, false]⟩

def k0_cond1 (i : grid0.Coords) : BitVec 1 :=
  let arg0 : BitVec 32 := BitVec.ofNat 32 (i 0).val
  let c0_i32 : BitVec 32 := 0#32
  let v0 : BitVec 1 := Scalar.cmpi .sgt arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v7 : Index := Scalar.indexCast arg1
  let c0_3 : Index := 0#32
  let c0_4 : Index := 0#32
  ![v7.toNat, 0, 0]
def k0_off2 (i : grid0.Coords) : Fin 3 → Nat :=
  let arg1 : BitVec 32 := BitVec.ofNat 32 (i 1).val
  let v17 : Index := Scalar.indexCast arg1
  let c0_8 : Index := 0#32
  let c128 : Index := 128#32
  ![v17.toNat, 0, 128]
def k0_off3 (i : grid0.Coords) : Fin 3 → Nat :=
  let arg1 : BitVec 32 := BitVec.ofNat 32 (i 1).val
  let v27 : Index := Scalar.indexCast arg1
  let c0_13 : Index := 0#32
  let c256 : Index := 256#32
  ![v27.toNat, 0, 256]
def k0_off4 (i : grid0.Coords) : Fin 3 → Nat :=
  let arg1 : BitVec 32 := BitVec.ofNat 32 (i 1).val
  let v37 : Index := Scalar.indexCast arg1
  let c0_18 : Index := 0#32
  let c384 : Index := 384#32
  ![v37.toNat, 0, 384]
def k0_off5 (i : grid0.Coords) : Fin 3 → Nat :=
  let arg1 : BitVec 32 := BitVec.ofNat 32 (i 1).val
  let v47 : Index := Scalar.indexCast arg1
  let c0_23 : Index := 0#32
  let c512 : Index := 512#32
  ![v47.toNat, 0, 512]
def k0_off6 (i : grid0.Coords) : Fin 3 → Nat :=
  let arg1 : BitVec 32 := BitVec.ofNat 32 (i 1).val
  let v57 : Index := Scalar.indexCast arg1
  let c0_28 : Index := 0#32
  let c640 : Index := 640#32
  ![v57.toNat, 0, 640]
def k0_off7 (i : grid0.Coords) : Fin 3 → Nat :=
  let arg1 : BitVec 32 := BitVec.ofNat 32 (i 1).val
  let v67 : Index := Scalar.indexCast arg1
  let c0_33 : Index := 0#32
  let c768 : Index := 768#32
  ![v67.toNat, 0, 768]
def k0_off8 (i : grid0.Coords) : Fin 3 → Nat :=
  let arg1 : BitVec 32 := BitVec.ofNat 32 (i 1).val
  let v77 : Index := Scalar.indexCast arg1
  let c0_38 : Index := 0#32
  let c896 : Index := 896#32
  ![v77.toNat, 0, 896]
def k0_cond2 (i : grid0.Coords) : BitVec 1 :=
  let arg0 : BitVec 32 := BitVec.ofNat 32 (i 0).val
  let c8_i32 : BitVec 32 := 8#32
  let v3 : BitVec 1 := Scalar.cmpi .slt arg0 c8_i32
  let v4 : BitVec 32 := Scalar.extui v3
  let c0_i32_1 : BitVec 32 := 0#32
  let v5 : BitVec 1 := Scalar.cmpi .ne v4 c0_i32_1
  v5

def k0_off9 (i : grid0.Coords) : Fin 3 → Nat :=
  let arg1 : BitVec 32 := BitVec.ofNat 32 (i 1).val
  let v35 : Index := Scalar.indexCast arg1
  let c0_15 : Index := 0#32
  let c0_16 : Index := 0#32
  ![v35.toNat, 0, 0]
def k0_off10 (i : grid0.Coords) : Fin 3 → Nat :=
  let arg1 : BitVec 32 := BitVec.ofNat 32 (i 1).val
  let v63 : Index := Scalar.indexCast arg1
  let c0_24 : Index := 0#32
  let c128_25 : Index := 128#32
  ![v63.toNat, 0, 128]
def k0_off11 (i : grid0.Coords) : Fin 3 → Nat :=
  let arg1 : BitVec 32 := BitVec.ofNat 32 (i 1).val
  let v103 : Index := Scalar.indexCast arg1
  let c0_43 : Index := 0#32
  let c256_44 : Index := 256#32
  ![v103.toNat, 0, 256]
def k0_off12 (i : grid0.Coords) : Fin 3 → Nat :=
  let arg1 : BitVec 32 := BitVec.ofNat 32 (i 1).val
  let v131 : Index := Scalar.indexCast arg1
  let c0_52 : Index := 0#32
  let c384_53 : Index := 384#32
  ![v131.toNat, 0, 384]
def k0_off13 (i : grid0.Coords) : Fin 3 → Nat :=
  let arg1 : BitVec 32 := BitVec.ofNat 32 (i 1).val
  let v169 : Index := Scalar.indexCast arg1
  let c0_70 : Index := 0#32
  let c512_71 : Index := 512#32
  ![v169.toNat, 0, 512]
def k0_off14 (i : grid0.Coords) : Fin 3 → Nat :=
  let arg1 : BitVec 32 := BitVec.ofNat 32 (i 1).val
  let v197 : Index := Scalar.indexCast arg1
  let c0_79 : Index := 0#32
  let c640_80 : Index := 640#32
  ![v197.toNat, 0, 640]
def k0_off15 (i : grid0.Coords) : Fin 3 → Nat :=
  let arg1 : BitVec 32 := BitVec.ofNat 32 (i 1).val
  let v235 : Index := Scalar.indexCast arg1
  let c0_97 : Index := 0#32
  let c768_98 : Index := 768#32
  ![v235.toNat, 0, 768]
def k0_off16 (i : grid0.Coords) : Fin 3 → Nat :=
  let arg1 : BitVec 32 := BitVec.ofNat 32 (i 1).val
  let v263 : Index := Scalar.indexCast arg1
  let c0_106 : Index := 0#32
  let c896_107 : Index := 896#32
  ![v263.toNat, 0, 896]
def k0_cond3 (i : grid0.Coords) : BitVec 1 :=
  let arg1 : BitVec 32 := BitVec.ofNat 32 (i 1).val
  let c11_i32 : BitVec 32 := 11#32
  let v274 : BitVec 1 := Scalar.cmpi .eq arg1 c11_i32
  let v275 : BitVec 32 := Scalar.extui v274
  let c0_i32_112 : BitVec 32 := 0#32
  let v276 : BitVec 1 := Scalar.cmpi .ne v275 c0_i32_112
  v276

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 1 := Scalar.cmpi .sgt arg0 c7_i32
  let c11_i32 : BitVec 32 := 11#32
  let v1 : BitVec 32 := Scalar.select v0 c11_i32 arg1
  let c9_i32 : BitVec 32 := 9#32
  let v2 : BitVec 32 := Scalar.addi v1 c9_i32
  let c0_i32 : BitVec 32 := 0#32
  let c0_i32_0 : BitVec 32 := 0#32
  ![c0_i32.toNat, v2.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 1 := Scalar.cmpi .sgt arg0 c7_i32
  let c11_i32 : BitVec 32 := 11#32
  let v1 : BitVec 32 := Scalar.select v0 c11_i32 arg1
  let c9_i32 : BitVec 32 := 9#32
  let v2 : BitVec 32 := Scalar.addi v1 c9_i32
  let c0_i32 : BitVec 32 := 0#32
  let c0_i32_0 : BitVec 32 := 0#32
  ![c0_i32.toNat, v2.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 1 := Scalar.cmpi .sgt arg0 c7_i32
  let c11_i32 : BitVec 32 := 11#32
  let v1 : BitVec 32 := Scalar.select v0 c11_i32 arg1
  let c9_i32 : BitVec 32 := 9#32
  let v2 : BitVec 32 := Scalar.addi v1 c9_i32
  let c0_i32 : BitVec 32 := 0#32
  let c0_i32_0 : BitVec 32 := 0#32
  ![c0_i32.toNat, v2.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

def cc0_transform_6 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S768x3072 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3072x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x1024 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S768x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MlpRefIdeal.lean ====
abbrev S4x1536x3072 : Shape := ⟨3, ![4, 1536, 3072]⟩
abbrev S4x1536 : Shape := ⟨2, ![4, 1536]⟩
abbrev S3072x21504 : Shape := ⟨2, ![3072, 21504]⟩
abbrev S21504 : Shape := ⟨1, ![21504]⟩
abbrev S6144x3072 : Shape := ⟨2, ![6144, 3072]⟩
abbrev S6144x1 : Shape := ⟨2, ![6144, 1]⟩
abbrev S1x21504 : Shape := ⟨2, ![1, 21504]⟩
abbrev S6144x12288 : Shape := ⟨2, ![6144, 12288]⟩
abbrev S3072x12288 : Shape := ⟨2, ![3072, 12288]⟩
abbrev S1x12288 : Shape := ⟨2, ![1, 12288]⟩
abbrev S6144 : Shape := ⟨1, ![6144]⟩
abbrev S8x1x768 : Shape := ⟨3, ![8, 1, 768]⟩

abbrev nBuf : Space → Nat
  | .hbm => 12
  | .vmem => 7
  | .smem => 0
  | _ => 0

abbrev bufTy : (tb : Table) → Fin (tcTables nBuf tb) → BufTy
  | .hbm, ⟨0, _⟩ => ⟨S4x1536x3072, .fp8e4m3⟩
  | .hbm, ⟨1, _⟩ => ⟨S4x1536, .f32⟩
  | .hbm, ⟨2, _⟩ => ⟨S3072x21504, .fp8e4m3⟩
  | .hbm, ⟨3, _⟩ => ⟨S21504, .f32⟩
  | .hbm, ⟨4, _⟩ => ⟨S21504, .f32⟩
  | .hbm, ⟨5, _⟩ => ⟨S6144x3072, .fp8e4m3⟩
  | .hbm, ⟨6, _⟩ => ⟨S6144x1, .f32⟩
  | .hbm, ⟨7, _⟩ => ⟨S1x21504, .f32⟩
  | .hbm, ⟨8, _⟩ => ⟨S1x21504, .f32⟩
  | .hbm, ⟨9, _⟩ => ⟨S6144x12288, .fp8e4m3⟩
  | .hbm, ⟨10, _⟩ => ⟨S6144x1, .f32⟩
  | .hbm, ⟨11, _⟩ => ⟨S8x1x768, .f32⟩
  | .local _ .vmem, ⟨0, _⟩ => ⟨S6144x3072, .fp8e4m3⟩
  | .local _ .vmem, ⟨1, _⟩ => ⟨S6144x1, .f32⟩
  | .local _ .vmem, ⟨2, _⟩ => ⟨S3072x21504, .fp8e4m3⟩
  | .local _ .vmem, ⟨3, _⟩ => ⟨S1x21504, .f32⟩
  | .local _ .vmem, ⟨4, _⟩ => ⟨S1x21504, .f32⟩
  | .local _ .vmem, ⟨5, _⟩ => ⟨S6144x12288, .fp8e4m3⟩
  | .local _ .vmem, ⟨6, _⟩ => ⟨S6144x1, .f32⟩
  | _, _ => ⟨S4x1536x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6144x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x21504 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x21504 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x21504 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x12288 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Out.lean ====
abbrev S4x1536x3072 : Shape := ⟨3, ![4, 1536, 3072]⟩
abbrev S4x3072 : Shape := ⟨2, ![4, 3072]⟩
abbrev S4x1536 : Shape := ⟨2, ![4, 1536]⟩
abbrev S4x1536x12288 : Shape := ⟨3, ![4, 1536, 12288]⟩
abbrev S15360x3072 : Shape := ⟨2, ![15360, 3072]⟩
abbrev S3072 : Shape := ⟨1, ![3072]⟩
abbrev S6144x3072 : Shape := ⟨2, ![6144, 3072]⟩
abbrev S6144x12288 : Shape := ⟨2, ![6144, 12288]⟩
abbrev S6144x1 : Shape := ⟨2, ![6144, 1]⟩
abbrev S6144x128 : Shape := ⟨2, ![6144, 128]⟩
abbrev S1x3072 : Shape := ⟨2, ![1, 3072]⟩
abbrev S4x1x3072 : Shape := ⟨3, ![4, 1, 3072]⟩
abbrev S512x3072 : Shape := ⟨2, ![512, 3072]⟩
abbrev S512x12288 : Shape := ⟨2, ![512, 12288]⟩
abbrev S512x128 : Shape := ⟨2, ![512, 128]⟩
abbrev S3072x1024 : Shape := ⟨2, ![3072, 1024]⟩
abbrev S12288x1024 : Shape := ⟨2, ![12288, 1024]⟩
abbrev S1x1024 : Shape := ⟨2, ![1, 1024]⟩
abbrev S1x1x1024 : Shape := ⟨3, ![1, 1, 1024]⟩
abbrev S512x1024 : Shape := ⟨2, ![512, 1024]⟩
abbrev S3072x256 : Shape := ⟨2, ![3072, 256]⟩
abbrev S512x256 : Shape := ⟨2, ![512, 256]⟩
abbrev S12288x256 : Shape := ⟨2, ![12288, 256]⟩
abbrev S1x128 : Shape := ⟨2, ![1, 128]⟩
abbrev S1x1x128 : Shape := ⟨3, ![1, 1, 128]⟩

abbrev nBuf : Space → Nat
  | .hbm => 20
  | .vmem => 22
  | .smem => 0
  | _ => 0

abbrev bufTy : (tb : Table) → Fin (tcTables nBuf tb) → BufTy
  | .hbm, ⟨0, _⟩ => ⟨S4x1536x3072, .bf16⟩
  | .hbm, ⟨1, _⟩ => ⟨S4x3072, .f32⟩
  | .hbm, ⟨2, _⟩ => ⟨S4x1536x3072, .fp8e4m3⟩
  | .hbm, ⟨3, _⟩ => ⟨S4x1536, .f32⟩
  | .hbm, ⟨4, _⟩ => ⟨S4x1536x12288, .fp8e4m3⟩
  | .hbm, ⟨5, _⟩ => ⟨S4x1536, .f32⟩
  | .hbm, ⟨6, _⟩ => ⟨S15360x3072, .fp8e4m3⟩
  | .hbm, ⟨7, _⟩ => ⟨S3072, .f32⟩
  | .hbm, ⟨8, _⟩ => ⟨S3072, .f32⟩
  | .hbm, ⟨9, _⟩ => ⟨S6144x3072, .fp8e4m3⟩
  | .hbm, ⟨10, _⟩ => ⟨S6144x12288, .fp8e4m3⟩
  | .hbm, ⟨11, _⟩ => ⟨S6144x1, .f32⟩
  | .hbm, ⟨12, _⟩ => ⟨S6144x128, .f32⟩
  | .hbm, ⟨13, _⟩ => ⟨S6144x1, .f32⟩
  | .hbm, ⟨14, _⟩ => ⟨S6144x128, .f32⟩
  | .hbm, ⟨15, _⟩ => ⟨S1x3072, .f32⟩
  | .hbm, ⟨16, _⟩ => ⟨S1x3072, .f32⟩
  | .hbm, ⟨17, _⟩ => ⟨S4x1x3072, .f32⟩
  | .hbm, ⟨18, _⟩ => ⟨S6144x3072, .bf16⟩
  | .hbm, ⟨19, _⟩ => ⟨S6144x3072, .bf16⟩
  | .local _ .vmem, ⟨0, _⟩ => ⟨S512x3072, .fp8e4m3⟩
  | .local _ .vmem, ⟨1, _⟩ => ⟨S512x3072, .fp8e4m3⟩
  | .local _ .vmem, ⟨2, _⟩ => ⟨S512x12288, .fp8e4m3⟩
  | .local _ .vmem, ⟨3, _⟩ => ⟨S512x12288, .fp8e4m3⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S3072x1024, .fp8e4m3⟩
  | .local _ .vmem, ⟨9, _⟩ => ⟨S3072x1024, .fp8e4m3⟩
  | .local _ .vmem, ⟨10, _⟩ => ⟨S12288x1024, .fp8e4m3⟩
  | .local _ .vmem, ⟨11, _⟩ => ⟨S12288x1024, .fp8e4m3⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1x1024, .f32⟩
  | .local _ .vmem, ⟨17, _⟩ => ⟨S1x1x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | _, _ => ⟨S4x1536x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![3, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c3072_i32 : BitVec 32 := 3072#32
  let c0_i32 : BitVec 32 := 0#32
  ![c3072_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x3072 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x12288 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3072x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S12288x1024 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== OutRefIdeal.lean ====
abbrev S4x1536x3072 : Shape := ⟨3, ![4, 1536, 3072]⟩
abbrev S4x3072 : Shape := ⟨2, ![4, 3072]⟩
abbrev S4x1536 : Shape := ⟨2, ![4, 1536]⟩
abbrev S4x1536x12288 : Shape := ⟨3, ![4, 1536, 12288]⟩
abbrev S15360x3072 : Shape := ⟨2, ![15360, 3072]⟩
abbrev S3072 : Shape := ⟨1, ![3072]⟩
abbrev S6144x3072 : Shape := ⟨2, ![6144, 3072]⟩
abbrev S6144x12288 : Shape := ⟨2, ![6144, 12288]⟩
abbrev S3072x3072 : Shape := ⟨2, ![3072, 3072]⟩
abbrev S12288x3072 : Shape := ⟨2, ![12288, 3072]⟩
abbrev S4x1536x1 : Shape := ⟨3, ![4, 1536, 1]⟩
abbrev S1x1x3072 : Shape := ⟨3, ![1, 1, 3072]⟩
abbrev S4x1x3072 : Shape := ⟨3, ![4, 1, 3072]⟩

abbrev nBuf : Space → Nat
  | .hbm => 35
  | .vmem => 5
  | .smem => 0
  | _ => 0

abbrev bufTy : (tb : Table) → Fin (tcTables nBuf tb) → BufTy
  | .hbm, ⟨0, _⟩ => ⟨S4x1536x3072, .bf16⟩
  | .hbm, ⟨1, _⟩ => ⟨S4x3072, .f32⟩
  | .hbm, ⟨2, _⟩ => ⟨S4x1536x3072, .fp8e4m3⟩
  | .hbm, ⟨3, _⟩ => ⟨S4x1536, .f32⟩
  | .hbm, ⟨4, _⟩ => ⟨S4x1536x12288, .fp8e4m3⟩
  | .hbm, ⟨5, _⟩ => ⟨S4x1536, .f32⟩
  | .hbm, ⟨6, _⟩ => ⟨S15360x3072, .fp8e4m3⟩
  | .hbm, ⟨7, _⟩ => ⟨S3072, .f32⟩
  | .hbm, ⟨8, _⟩ => ⟨S3072, .f32⟩
  | .hbm, ⟨9, _⟩ => ⟨S6144x3072, .fp8e4m3⟩
  | .hbm, ⟨10, _⟩ => ⟨S6144x12288, .fp8e4m3⟩
  | .hbm, ⟨11, _⟩ => ⟨S6144x3072, .f32⟩
  | .hbm, ⟨12, _⟩ => ⟨S6144x3072, .f32⟩
  | .hbm, ⟨13, _⟩ => ⟨S4x1536x3072, .f32⟩
  | .hbm, ⟨14, _⟩ => ⟨S4x1536x3072, .f32⟩
  | .hbm, ⟨15, _⟩ => ⟨S4x1536x1, .f32⟩
  | .hbm, ⟨16, _⟩ => ⟨S4x1536x3072, .f32⟩
  | .hbm, ⟨17, _⟩ => ⟨S4x1536x3072, .f32⟩
  | .hbm, ⟨18, _⟩ => ⟨S4x1536x1, .f32⟩
  | .hbm, ⟨19, _⟩ => ⟨S4x1536x3072, .f32⟩
  | .hbm, ⟨20, _⟩ => ⟨S4x1536x3072, .f32⟩
  | .hbm, ⟨21, _⟩ => ⟨S4x1536x3072, .f32⟩
  | .hbm, ⟨22, _⟩ => ⟨S1x1x3072, .f32⟩
  | .hbm, ⟨23, _⟩ => ⟨S4x1536x3072, .f32⟩
  | .hbm, ⟨24, _⟩ => ⟨S4x1536x3072, .f32⟩
  | .hbm, ⟨25, _⟩ => ⟨S1x1x3072, .f32⟩
  | .hbm, ⟨26, _⟩ => ⟨S4x1536x3072, .f32⟩
  | .hbm, ⟨27, _⟩ => ⟨S4x1536x3072, .f32⟩
  | .hbm, ⟨28, _⟩ => ⟨S4x1536x3072, .f32⟩
  | .hbm, ⟨29, _⟩ => ⟨S4x1x3072, .f32⟩
  | .hbm, ⟨30, _⟩ => ⟨S4x1536x3072, .f32⟩
  | .hbm, ⟨31, _⟩ => ⟨S4x1536x3072, .f32⟩
  | .hbm, ⟨32, _⟩ => ⟨S4x1536x3072, .f32⟩
  | .hbm, ⟨33, _⟩ => ⟨S4x1536x3072, .bf16⟩
  | .hbm, ⟨34, _⟩ => ⟨S6144x3072, .bf16⟩
  | .local _ .vmem, ⟨0, _⟩ => ⟨S6144x3072, .fp8e4m3⟩
  | .local _ .vmem, ⟨1, _⟩ => ⟨S6144x12288, .fp8e4m3⟩
  | .local _ .vmem, ⟨2, _⟩ => ⟨S15360x3072, .fp8e4m3⟩
  | .local _ .vmem, ⟨3, _⟩ => ⟨S6144x3072, .f32⟩
  | .local _ .vmem, ⟨4, _⟩ => ⟨S6144x3072, .f32⟩
  | _, _ => ⟨S4x1536x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S6144x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x12288 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S15360x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.VpBlock.lean ====
/- The value projection, one block: what the kernel body leaves in its output block, as one formula of the blocks it reads. -/
module

public import proofs.«01_k».proof.Proof.Gen.VpIdeal.Frame
public import Idealize.ShloMosaic.Lib.Pipeline.Value
public import Idealize.ShloMosaic.Lib.Pointwise

@[expose] public section

noncomputable section

namespace Cert.VpIdeal.Hand

open Cert.VpIdeal Cert.VpIdeal.Gen Idealize.ShloMosaic Idealize.ShloMosaic.TcCoe Idealize.SL.Sem
open scoped BigOperators

/-- Element (row, column) of an output block: `p * a * w + bias`, where `p` is the product of codes and `a` the row scale. -/
def blockAt (x0 : Vec Ideal S512x3072 .fp8e4m3) (a : Fin 512 → EReal)
    (x2 : Vec Ideal S3072x1024 .fp8e4m3) (x3 x4 : Vec Ideal S1x1024 .f32) (y : S512x1024.Idx) : Elt Ideal .bf16 :=
  (∑ k : Fin 3072, x0 (ix2 (y 0) k) * x2 (ix2 k (y 1))) * a (y 0) * x3 (ix2 0 (y 1)) + x4 (ix2 0 (y 1))

/-- A rectangle's embedding of a local index, as the index a load through it reads. -/
theorem emb_eq_idx {s : Shape} (r : Rect s) (x : r.shape.Idx) : r.emb x = r.toLoadRect.idx x := rfl

set_option maxRecDepth 16384 in
/-- The body's output block is `blockAt` of its input blocks, when the block of row scales holds one scale per row in every lane. -/
theorem out_eq (x0 : Vec Ideal S512x3072 .fp8e4m3) (x1 : Vec Ideal S512x128 .f32)
    (x2 : Vec Ideal S3072x1024 .fp8e4m3) (x3 x4 : Vec Ideal S1x1024 .f32) (a : Fin 512 → EReal)
    (ha : ∀ r l, x1 (ix2 r l) = a r) (y : S512x1024.Idx) :
    out0_5 x0 x1 x2 x3 x4 y = blockAt x0 a x2 x3 x4 y := by
  unfold_out out0_5
  refine View.canon_apply_of_pieces (Val := Elt Ideal) (e := .bf16) (blockAt x0 a x2 x3 x4) _ ?_ y (cover0_5 _ _ _ _ _ _ _ _ y)
  simp only [List.forall_mem_cons, List.not_mem_nil, false_implies, implies_true, and_true]
  refine ⟨?_, ?_, ?_, ?_, ?_, ?_, ?_, ?_⟩
  all_goals
    intro x
    idx_vars x
    unfold_payloads
    pointwise [blockAt, ha, emb_eq_idx, Nat.zero_add]
    try simp only [← Nat.add_assoc, Nat.reduceAdd]

end Cert.VpIdeal.Hand

end
-- ==== Proof.Rows.lean ====
/- The reshapes between (4, 1536, N) and (6144, N), read at an index, and rows of lanes. -/
module

public import Idealize.ShloMosaic.Lib.Pointwise

@[expose] public section

noncomputable section

namespace Cert.Spec

open Idealize.ShloMosaic

/-- The batch of a flat row: 1536 rows to a batch. -/
def batch (r : Fin 6144) : Fin 4 := ⟨r.val / 1536, by omega⟩
/-- The place of a flat row inside its batch. -/
def place (r : Fin 6144) : Fin 1536 := ⟨r.val % 1536, by omega⟩

/-- A (4, 1536, N) array as (6144, N), read at flat row `r`. -/
theorem flat_apply {α : Type} {N : ℕ} (x : (⟨3, ![4, 1536, N]⟩ : Shape).Idx → α)
    (h : (⟨3, ![4, 1536, N]⟩ : Shape).ShapeCasts ⟨2, ![6144, N]⟩) (r : Fin 6144) (k : Fin N) :
    shapeCast ⟨2, ![6144, N]⟩ x h (ix2 r k) = x (ix3 (batch r) (place r) k) := by
  refine congrArg x (Shape.reshapeEquiv_eq_of_rowMajor _ ?_)
  rw [rowMajor_val2 _ N rfl, rowMajor_val3 _ (1536 * N) N rfl rfl]
  show r.val / 1536 * (1536 * N) + r.val % 1536 * N + k.val = r.val * N + k.val
  rw [← Nat.mul_assoc, ← Nat.add_mul, Nat.div_add_mod']

/-- The flat row at a batch and a place. -/
def flatRow (b : Fin 4) (s : Fin 1536) : Fin 6144 := ⟨b.val * 1536 + s.val, by omega⟩

theorem flatRow_batch_place (r : Fin 6144) : flatRow (batch r) (place r) = r :=
  Fin.ext (Nat.div_add_mod' r.val 1536)

/-- A (6144, N) array as (4, 1536, N), read at batch `b` and place `s`. -/
theorem unflat_apply {α : Type} {N : ℕ} (x : (⟨2, ![6144, N]⟩ : Shape).Idx → α)
    (h : (⟨2, ![6144, N]⟩ : Shape).ShapeCasts ⟨3, ![4, 1536, N]⟩) (b : Fin 4) (s : Fin 1536) (k : Fin N) :
    shapeCast ⟨3, ![4, 1536, N]⟩ x h (ix3 b s k) = x (ix2 (flatRow b s) k) := by
  refine congrArg x (Shape.reshapeEquiv_eq_of_rowMajor _ ?_)
  rw [rowMajor_val2 _ N rfl, rowMajor_val3 _ (1536 * N) N rfl rfl]
  show (b.val * 1536 + s.val) * N + k.val = b.val * (1536 * N) + s.val * N + k.val
  rw [Nat.add_mul, Nat.mul_assoc]

/-- Row scales (4, 1536) as a column, replicated over 128 lanes, read at row `r`. -/
theorem lanes_apply {α : Type} (x : (⟨2, ![4, 1536]⟩ : Shape).Idx → α)
    (h : (⟨2, ![4, 1536]⟩ : Shape).ShapeCasts ⟨2, ![6144, 1]⟩)
    (hb : (⟨2, ![6144, 1]⟩ : Shape).BroadcastsInDim ⟨2, ![6144, 128]⟩ (![0, 1] : Fin 2 → Fin 2)) (r : Fin 6144) (l : Fin 128) :
    broadcastInDim ⟨2, ![6144, 128]⟩ (![0, 1] : Fin 2 → Fin 2) hb (shapeCast ⟨2, ![6144, 1]⟩ x h) (ix2 r l) = x (ix2 (batch r) (place r)) := by
  pointwise
  rfl

end Cert.Spec

end
-- ==== Proof.ProjSpec.lean ====
/- The input projection as one formula of its arguments: the columns of `w1` for queries and keys, for values and for the MLP are all
   computed by it, and both kinds of program are shown to compute it. -/
module

public import proofs.«01_k».proof.Proof.Rows

@[expose] public section

noncomputable section

namespace Cert.Spec

open Idealize.ShloMosaic
open scoped BigOperators

/-- Element (r, n) of the input projection: `codes · w1 * row scale * column scale + bias`. -/
def projAt (xc : (⟨3, ![4, 1536, 3072]⟩ : Shape).Idx → EReal) (xs : (⟨2, ![4, 1536]⟩ : Shape).Idx → EReal)
    (w1 : (⟨2, ![3072, 21504]⟩ : Shape).Idx → EReal) (ws b : (⟨1, ![21504]⟩ : Shape).Idx → EReal)
    (r : Fin 6144) (n : Fin 21504) : EReal :=
  (∑ k : Fin 3072, xc (ix3 (batch r) (place r) k) * w1 (ix2 k n)) * xs (ix2 (batch r) (place r)) * ws (ix1 n) + b (ix1 n)

end Cert.Spec

end
-- ==== Proof.VpValue.lean ====
/- The value projection: the kernel's result array is `Spec.projAt` of the arguments, at the columns of `w1` for the values. -/
module

public import proofs.«01_k».proof.Proof.VpBlock
public import proofs.«01_k».proof.Proof.ProjSpec
public import proofs.«01_k».proof.Proof.Gen.VpIdeal.Value
public import Idealize.ShloMosaic.Lib.Pipeline.ValueKit

@[expose] public section

noncomputable section

namespace Cert.VpIdeal.Hand

open Cert.VpIdeal Cert.VpIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-! ## What the region finds in the arrays the host operations made -/

theorem V0 (c : Dev nD) : V m c main_v0 = shapeCast S6144x3072 (m ((c : Thread nD τ).loc main_arg0)) shapeCasts_S4x1536x3072_S6144x3072 := by
  dsimp only [V, hostOps0]; after_results; rfl

theorem V2 (c : Dev nD) : V m c main_v2 = broadcastInDim S6144x128 ![0, 1] bcast_S6144x1_S6144x128_0_1 (shapeCast S6144x1 (m ((c : Thread nD τ).loc main_arg1)) shapeCasts_S4x1536_S6144x1) := by
  dsimp only [V, hostOps0]; after_results; rfl

theorem V3 (c : Dev nD) : V m c main_v3 = broadcastInDim S1x21504 ![1] bcast_S21504_S1x21504_1 (m ((c : Thread nD τ).loc main_arg3)) := by
  dsimp only [V, hostOps0]; after_results

theorem V4 (c : Dev nD) : V m c main_v4 = broadcastInDim S1x21504 ![1] bcast_S21504_S1x21504_1 (m ((c : Thread nD τ).loc main_arg4)) := by
  dsimp only [V, hostOps0]; after_results

/-! ## Which block each window holds at a point: row block `i`, column block `j` of the output block; the columns of `w1` start at 6144 -/

theorem idx_facts : ∀ t : Fin cfg0.N, win0_0.index t = ![win0_5.index t 0, 0] ∧ win0_1.index t = ![win0_5.index t 0, 0]
    ∧ win0_2.index t = ![0, win0_5.index t 1 + 6] ∧ win0_3.index t = ![0, win0_5.index t 1 + 6]
    ∧ win0_4.index t = ![0, win0_5.index t 1 + 6] ∧ win0_5.index t 0 < 12 ∧ win0_5.index t 1 < 3 :=
  (by decide +kernel : ∀ t : Fin grid0.N, _)

/-- The array row of row `r` of point `t`'s block. -/
def row (t : Fin cfg0.N) (r : Fin 512) : Fin 6144 := ⟨win0_5.index t 0 * 512 + r.val, by have := (idx_facts t).2.2.2.2.2.1; omega⟩
/-- The array column of column `n` of point `t`'s block. -/
def col (t : Fin cfg0.N) (n : Fin 1024) : Fin 3072 := ⟨win0_5.index t 1 * 1024 + n.val, by have := (idx_facts t).2.2.2.2.2.2; omega⟩
/-- Column `n` of the values, as a column of `w1`. -/
def wcol (n : Fin 3072) : Fin 21504 := ⟨6144 + n.val, by omega⟩

/-! ## Each block, read in the arguments -/

theorem blk0 (c : Dev nD) (t : Fin cfg0.N) (r : Fin 512) (k : Fin 3072) :
    (iblk m c 0 t : Vec Ideal S512x3072 .fp8e4m3) (ix2 r k) = m ((c : Thread nD τ).loc main_arg0) (ix3 (Spec.batch (row t r)) (Spec.place (row t r)) k) := by
  obtain ⟨e0, -⟩ := idx_facts t
  have e : (win0_0.blk t).view.emb (ix2 r k) = ix2 (row t r) k := by blk_ext [e0, row, col, wcol]
  blk_simp [iblk, e]
  refine (congrFun (V0 m c) _).trans ?_
  exact Spec.flat_apply _ _ _ _

theorem blk1 (c : Dev nD) (t : Fin cfg0.N) (r : Fin 512) (k : Fin 128) :
    (iblk m c 1 t : Vec Ideal S512x128 .f32) (ix2 r k) = m ((c : Thread nD τ).loc main_arg1) (ix2 (Spec.batch (row t r)) (Spec.place (row t r))) := by
  obtain ⟨-, e0, -⟩ := idx_facts t
  have e : (win0_1.blk t).view.emb (ix2 r k) = ix2 (row t r) k := by blk_ext [e0, row, col, wcol]
  blk_simp [iblk, e]
  refine (congrFun (V2 m c) _).trans ?_
  exact Spec.lanes_apply _ _ _ _ _

theorem blk2 (c : Dev nD) (t : Fin cfg0.N) (k : Fin 3072) (n : Fin 1024) :
    (iblk m c 2 t : Vec Ideal S3072x1024 .fp8e4m3) (ix2 k n) = m ((c : Thread nD τ).loc main_arg2) (ix2 k (wcol (col t n))) := by
  obtain ⟨-, -, e0, -⟩ := idx_facts t
  have e : (win0_2.blk t).view.emb (ix2 k n) = ix2 k (wcol (col t n)) := by blk_ext [e0, row, col, wcol]
  blk_simp [iblk, e]
  exact congrFun (V_main_arg2 m c) _

theorem blk3 (c : Dev nD) (t : Fin cfg0.N) (n : Fin 1024) :
    (iblk m c 3 t : Vec Ideal S1x1024 .f32) (ix2 0 n) = m ((c : Thread nD τ).loc main_arg3) (ix1 (wcol (col t n))) := by
  obtain ⟨-, -, -, e0, -⟩ := idx_facts t
  have e : (win0_3.blk t).view.emb (ix2 0 n) = ix2 0 (wcol (col t n)) := by blk_ext [e0, row, col, wcol]
  blk_simp [iblk, e]
  refine (congrFun (V3 m c) _).trans ?_
  pointwise

theorem blk4 (c : Dev nD) (t : Fin cfg0.N) (n : Fin 1024) :
    (iblk m c 4 t : Vec Ideal S1x1024 .f32) (ix2 0 n) = m ((c : Thread nD τ).loc main_arg4) (ix1 (wcol (col t n))) := by
  obtain ⟨-, -, -, -, e0, -⟩ := idx_facts t
  have e : (win0_4.blk t).view.emb (ix2 0 n) = ix2 0 (wcol (col t n)) := by blk_ext [e0, row, col, wcol]
  blk_simp [iblk, e]
  refine (congrFun (V4 m c) _).trans ?_
  pointwise

/-! ## The result array -/

/-- Element (r, n) of the result, of device `c`'s arguments. -/
def resAt (c : Dev nD) (r : Fin 6144) (n : Fin 3072) : EReal :=
  Spec.projAt (m ((c : Thread nD τ).loc main_arg0)) (m ((c : Thread nD τ).loc main_arg1)) (m ((c : Thread nD τ).loc main_arg2))
    (m ((c : Thread nD τ).loc main_arg3)) (m ((c : Thread nD τ).loc main_arg4)) r (wcol n)

/-- The result array after the run holds `resAt` at every index: each point writes its block of it, and the blocks cover the array. -/
theorem final (c : Dev nD) : (dats m 0 c).arrAt 5 cfg0.N = fun i : S6144x3072.Idx => resAt m c (i 0) (i 1) := by
  refine (dats m 0 c).arrAt_eq_of_covers 5 _ (by decide +kernel) fun t _ y => ?_
  idx_vars y
  have e : (win0_5.blk t).view.emb (ix2 y0 y1) = ix2 (row t y0) (col t y1) := by blk_ext [row, col]
  blk_simp [e]
  rw [after0_5]
  refine (out_eq _ _ _ _ _ (fun r => m ((c : Thread nD τ).loc main_arg1) (ix2 (Spec.batch (row t r)) (Spec.place (row t r))))
    (blk1 m c t) (ix2 y0 y1)).trans ?_
  exact Ideal.add_congr (Ideal.mul_congr
    (Ideal.mul_congr (Finset.sum_congr rfl fun k _ => Ideal.mul_congr (blk0 m c t y0 k) (blk2 m c t k y1)) rfl)
    (blk3 m c t y1)) (blk4 m c t y1)

end Cert.VpIdeal.Hand

end
-- ==== Proof.VpRefValue.lean ====
/- The value projection's reference: its region leaves the product of codes, and its result array is a formula of `Spec.projAt`. -/
module

public import proofs.«01_k».proof.Proof.ProjSpec
public import proofs.«01_k».proof.Proof.Gen.VpRefIdeal.Run
public import proofs.«01_k».proof.Proof.Gen.VpRefIdeal.Read
public import Idealize.ShloMosaic.Lib.Pipeline.ValueKit

@[expose] public section

noncomputable section

namespace Cert.VpRefIdeal.Hand

open Cert.VpRefIdeal Cert.VpRefIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-! ## What the region finds -/

theorem arr0 (c : Dev nD) : V m c main_v0 = shapeCast S6144x3072 (m ((c : Thread nD τ).loc main_arg0)) shapeCasts_S4x1536x3072_S6144x3072 := by
  simp only [V, Gen.V0, List.flatten_cons, List.flatten_nil, List.append_nil]; after_results; rfl

/-! ## The product the region computes -/

theorem idx_facts : ∀ t : Fin cfg0.N, win0_0.index t = ![0, 0] ∧ win0_1.index t = ![0, 0] ∧ win0_2.index t = ![0, 0] :=
  (by decide +kernel : ∀ t : Fin grid0.N, _)

theorem blk0 (c : Dev nD) (t : Fin cfg0.N) (r : Fin 6144) (k : Fin 3072) :
    (iblk m c 0 t : Vec Ideal S6144x3072 .fp8e4m3) (ix2 r k) = m ((c : Thread nD τ).loc main_arg0) (ix3 (Spec.batch r) (Spec.place r) k) := by
  obtain ⟨e0, -⟩ := idx_facts t
  have e : (win0_0.blk t).view.emb (ix2 r k) = ix2 r k := by blk_ext [e0]
  blk_simp [iblk, e]
  exact (congrFun (arr0 m c) _).trans (Spec.flat_apply _ _ _ _)

theorem blk1 (c : Dev nD) (t : Fin cfg0.N) (k : Fin 3072) (n : Fin 21504) :
    (iblk m c 1 t : Vec Ideal S3072x21504 .fp8e4m3) (ix2 k n) = m ((c : Thread nD τ).loc main_arg2) (ix2 k n) := by
  obtain ⟨-, e0, -⟩ := idx_facts t
  have e : (win0_1.blk t).view.emb (ix2 k n) = ix2 k n := by blk_ext [e0]
  blk_simp [iblk, e]
  exact congrFun (V_main_arg2 m c) _

/-- The product of codes at row `r` and column `n`. -/
def prodAt (xc : S4x1536x3072.Idx → EReal) (w1 : S3072x21504.Idx → EReal) (r : Fin 6144) (n : Fin 21504) : EReal :=
  ∑ k : Fin 3072, xc (ix3 (Spec.batch r) (Spec.place r) k) * w1 (ix2 k n)

/-- The region leaves the product in its result array. -/
theorem prod (c : Dev nD) : Value.reg_main_v1 m c
    = fun i : S6144x21504.Idx => prodAt (m ((c : Thread nD τ).loc main_arg0)) (m ((c : Thread nD τ).loc main_arg2)) (i 0) (i 1) := by
  refine (dats m 0 c).arrAt_eq_of_covers 2 _ (by decide +kernel) fun t _ y => ?_
  idx_vars y
  obtain ⟨-, -, e0⟩ := idx_facts t
  have e : (win0_2.blk t).view.emb (ix2 y0 y1) = ix2 y0 y1 := by blk_ext [e0]
  blk_simp [e]
  rw [after0_2]
  unfold out0_2
  rw [View.canon_unit_zero (by decide)]
  unfold_payloads
  pointwise
  exact Finset.sum_congr (M := EReal) rfl fun k _ => Ideal.mul_congr (blk0 m c t y0 k) (blk1 m c t k y1)

/-! ## The host operations after the region -/

/-- The whole input projection, at row `r` and column `n`, of the arguments and the product. -/
theorem proj_apply (x1 : (⟨S4x1536, .f32⟩ : BufTy).Contents (Elt Ideal)) (x3 x4 : (⟨S21504, .f32⟩ : BufTy).Contents (Elt Ideal))
    (r0 : (⟨S6144x21504, .f32⟩ : BufTy).Contents (Elt Ideal)) (r : Fin 6144) (n : Fin 21504) :
    Read.val_main_v11 x1 x3 x4 r0 (ix3 (Spec.batch r) (Spec.place r) n)
      = r0 (ix2 r n) * x1 (ix2 (Spec.batch r) (Spec.place r)) * x3 (ix1 n) + x4 (ix1 n) := by
  have h0 := Spec.unflat_apply (N := 21504) r0 shapeCasts_S6144x21504_S4x1536x21504 (Spec.batch r) (Spec.place r) n
  rw [Spec.flatRow_batch_place] at h0
  rw [← h0]
  generalize Spec.batch r = b
  generalize Spec.place r = s
  pointwise [Read.val_main_v11, Read.val_main_v10, Read.val_main_v9, Read.val_main_v8, Read.val_main_v7, Read.val_main_v6, Read.val_main_v5, Read.val_main_v4, Read.val_main_v3, Read.val_main_v2]

/-- The input projection over the region's product is `Spec.projAt`. -/
theorem proj_eq (c : Dev nD) (r : Fin 6144) (n : Fin 21504) :
    Read.val_main_v11 (F := Ideal) (m ((c.tc : Thread nD τ).loc main_arg1)) (m ((c.tc : Thread nD τ).loc main_arg3))
      (m ((c.tc : Thread nD τ).loc main_arg4)) (Value.reg_main_v1 m c) (ix3 (Spec.batch r) (Spec.place r) n)
    = Spec.projAt (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) r n := by
  refine (proj_apply _ _ _ _ r n).trans ?_
  rw [prod]
  rfl

/-- The result of the host operations at row `r` and column `n`: the input projection at the values' column. -/
theorem tail_apply (x1 : (⟨S4x1536, .f32⟩ : BufTy).Contents (Elt Ideal)) (x3 x4 : (⟨S21504, .f32⟩ : BufTy).Contents (Elt Ideal))
    (r0 : (⟨S6144x21504, .f32⟩ : BufTy).Contents (Elt Ideal)) (r : Fin 6144) (n : Fin 3072) :
    Read.val_main_v14 x1 x3 x4 r0 (ix2 r n)
      = Read.val_main_v11 x1 x3 x4 r0 (ix3 (Spec.batch r) (Spec.place r) ⟨6144 + n.val, by omega⟩) := by
  refine (Spec.flat_apply (N := 3072) _ _ r n).trans ?_
  generalize Spec.batch r = b
  generalize Spec.place r = s
  pointwise [Read.val_main_v13, Read.val_main_v12]

end Cert.VpRefIdeal.Hand

end
-- ==== Proof.VpProof.lean ====
/- The value projection: the kernel and its reference end with equal results, as extended reals. -/
module

public import proofs.«01_k».proof.Defs
public import proofs.«01_k».proof.Proof.VpValue
public import proofs.«01_k».proof.Proof.VpRefValue

@[expose] public section

noncomputable section

namespace Cert.Proof

open Idealize.ShloMosaic Idealize.SL.Sem

/-- `Spec.projAt` at the values' columns is the common result. -/
theorem vp_algebraic : Cert.algebraic_VpIdeal_VpRefIdeal := by
  intro m g m' g' _ hagree
  refine ⟨fun c => fun i : (⟨2, ![6144, 3072]⟩ : Shape).Idx => Cert.VpIdeal.Hand.resAt m c (i 0) (i 1),
    (θ_run _ _ _).mono (fun _ h c => ⟨(h c).1.trans (Cert.VpIdeal.Hand.final m c), (h c).2⟩) (Cert.VpIdeal.Value.run_blocks m g),
    (θ_run _ _ _).mono (fun _ h c => ⟨(h c).1.trans ?_, (h c).2⟩) (Cert.VpRefIdeal.Value.run m' g')⟩
  funext i
  idx_vars i
  refine (Cert.VpRefIdeal.Hand.tail_apply _ _ _ _ i0 i1).trans ((Cert.VpRefIdeal.Hand.proj_eq m' c i0 _).trans ?_)
  obtain ⟨e0, e1, e2, e3, e4⟩ := hagree c
  rw [e0, e1, e2, e3, e4]
  rfl

end Cert.Proof

end
-- ==== Proof.QkSpec.lean ====
/- One head of the queries or keys: the norm over its 128 columns and the rotation of its pairs, as formulas over extended reals. The
   reference divides by the norm and then rotates; the kernel folds the norm's weights into the cosines and sines, rotates, and multiplies by
   the inverse. `fold_eq` says the two are equal, with no condition on the values. -/
module

public import proofs.«01_k».proof.Proof.ProjSpec

@[expose] public section

noncomputable section

namespace Cert.Spec

open Idealize.ShloMosaic
open scoped BigOperators

/-- The other lane of a lane's pair: the next one for an even lane, the one before for an odd lane. -/
def swap (l : Fin 128) : Fin 128 :=
  if l.val % 2 = 0 then ⟨(l.val + 128 - 127) % 128, by omega⟩ else ⟨(l.val + 128 - 1) % 128, by omega⟩

/-- A lane's pair. -/
def pair (l : Fin 128) : Fin 64 := ⟨l.val / 2, by omega⟩

/-- The root mean square of a head's columns, with the constant. -/
def rms (v : Fin 128 → EReal) : EReal :=
  Ideal.sqrt (Ideal.div (∑ x, v x * v x) (Ideal.ofBits .f32 0x43000000#32) + Ideal.ofBits .f32 0x358637BD#32)

/-- A head's column divided by the norm, times its weight. -/
def normed (v w : Fin 128 → EReal) (l : Fin 128) : EReal := Ideal.div (v l) (rms v) * w l

/-- A head's rotated column. -/
def rotAt (v w : Fin 128 → EReal) (c s : Fin 64 → EReal) (l : Fin 128) : EReal :=
  if l.val % 2 = 0 then c (pair l) * normed v w l - s (pair l) * normed v w (swap l)
  else s (pair l) * normed v w (swap l) + c (pair l) * normed v w l

/-- The sign of a lane's sine. -/
def sgn (l : Fin 128) : EReal := if l.val % 2 = 0 then -1 else 1

theorem ofBits_128 : Ideal.ofBits .f32 0x43000000#32 = ((128 : ℝ) : EReal) := by
  simp [Ideal.ofBits, Ideal.ieee, -EReal.coe_mul]; norm_num

theorem ofBits_eps_pos : 0 < Ideal.ofBits .f32 0x358637BD#32 := by
  simp [Ideal.ofBits, Ideal.ieee, -EReal.coe_mul]

theorem sq_nonneg' (x : EReal) : 0 ≤ x * x := by
  rcases le_total 0 x with h | h
  · exact mul_nonneg h h
  · have := mul_nonneg (EReal.neg_nonneg.mpr h) (EReal.neg_nonneg.mpr h)
    rwa [neg_mul_neg] at this

theorem div_nonneg' {x y : EReal} (hx : 0 ≤ x) (hy : 0 < y) : 0 ≤ Ideal.div x y := by
  rw [Ideal.div, if_neg hy.ne']
  exact mul_nonneg hx (EReal.inv_nonneg_of_nonneg hy.le)

theorem sqrt_pos' {x : EReal} (hx : 0 < x) : 0 < Ideal.sqrt x := by
  induction x with
  | bot => exact absurd hx (by simp)
  | top => exact EReal.zero_lt_top
  | coe r =>
    have h : 0 < r := by exact_mod_cast hx
    show 0 < (if r < 0 then (⊥ : EReal) else (Real.sqrt r : EReal))
    rw [if_neg h.not_gt]
    exact_mod_cast Real.sqrt_pos.mpr h

/-- The root mean square is positive: the constant is. -/
theorem rms_pos (v : Fin 128 → EReal) : 0 < rms v := by
  refine sqrt_pos' (lt_of_lt_of_le ofBits_eps_pos (le_add_of_nonneg_left (div_nonneg' (Finset.sum_nonneg fun x _ => sq_nonneg' (v x)) ?_)))
  rw [ofBits_128]
  exact_mod_cast (by norm_num : (0 : ℝ) < 128)

/-- Dividing a sum by a positive value: it may be done term by term, also when the value or a term is infinite. -/
theorem add_mul_inv {a b i : EReal} (h0 : 0 ≤ i) (ht : i ≠ ⊤) : (a + b) * i = a * i + b * i :=
  EReal.right_distrib_of_nonneg_of_ne_top h0 ht a b

theorem inv_ne_top' {x : EReal} (hx : 0 < x) : x⁻¹ ≠ ⊤ := by
  induction x with
  | bot => simp
  | top => simp
  | coe r => rw [← EReal.coe_inv]; exact EReal.coe_ne_top _

/-- The kernel's order of operations gives the reference's value. -/
theorem fold_eq (v w : Fin 128 → EReal) (c s : Fin 64 → EReal) (l : Fin 128) :
    (v l * (c (pair l) * w l) + v (swap l) * ((s (pair l) * sgn l) * w (swap l))) * Ideal.div 1 (rms v) = rotAt v w c s l := by
  have hp := rms_pos v
  unfold rotAt normed
  simp only [Ideal.div, if_neg hp.ne', one_mul]
  rw [add_mul_inv (EReal.inv_nonneg_of_nonneg hp.le) (inv_ne_top' hp)]
  generalize (rms v)⁻¹ = i
  unfold sgn
  by_cases h : l.val % 2 = 0
  · rw [if_pos h, if_pos h, sub_eq_add_neg]
    congr 1
    · ac_rfl
    · rw [mul_neg, mul_one, neg_mul, mul_neg, neg_mul]
      congr 1
      ac_rfl
  · rw [if_neg h, if_neg h, mul_one, add_comm]
    congr 1 <;> ac_rfl

/-- Column `l` of the head that column `n` belongs to, as a column of `w1`. -/
def headCol (n : Fin 6144) (l : Fin 128) : Fin 21504 := ⟨n.val / 128 * 128 + l.val, by omega⟩
/-- A column's place in its head. -/
def lane (n : Fin 6144) : Fin 128 := ⟨n.val % 128, by omega⟩

/-- Element (r, n) of the rotated queries (columns below 3072) and keys (the others). -/
def qkAt (xc : (⟨3, ![4, 1536, 3072]⟩ : Shape).Idx → EReal) (xs : (⟨2, ![4, 1536]⟩ : Shape).Idx → EReal)
    (w1 : (⟨2, ![3072, 21504]⟩ : Shape).Idx → EReal) (ws b : (⟨1, ![21504]⟩ : Shape).Idx → EReal)
    (qw kw : (⟨1, ![128]⟩ : Shape).Idx → EReal) (cos sin : (⟨3, ![4, 1536, 64]⟩ : Shape).Idx → EReal)
    (r : Fin 6144) (n : Fin 6144) : EReal :=
  rotAt (fun l => projAt xc xs w1 ws b r (headCol n l)) (fun l => if n.val < 3072 then qw (ix1 l) else kw (ix1 l))
    (fun p => cos (ix3 (batch r) (place r) p)) (fun p => sin (ix3 (batch r) (place r) p)) (lane n)

end Cert.Spec

end
-- ==== Proof.QkHead.lean ====
/- One head of the query/key projection: what the kernel computes from a head's 128 projected columns, as one formula. -/
module

public import proofs.«01_k».proof.Proof.QkSpec
public import proofs.«01_k».proof.Proof.Gen.QkIdeal.Frame
public import Idealize.ShloMosaic.Lib.Pipeline.Value
public import Idealize.ShloMosaic.Lib.Pointwise

@[expose] public section

noncomputable section

namespace Cert.QkIdeal.Hand

open Cert.QkIdeal Cert.QkIdeal.Gen Idealize.ShloMosaic Idealize.ShloMosaic.TcCoe Idealize.SL.Sem
open scoped BigOperators

/-- The kernel's test for an even lane, as it computes it from the lane's number. -/
def evenLane (l : ℕ) : BitVec 1 :=
  IntOp.cmpi CmpIPredicate.eq
    (Scalar.select
      (IntOp.andi
        (IntOp.xori
          (IntOp.cmpi CmpIPredicate.slt
            (IntOp.remsi ArithUnit.vector (BitVec.ofNat 32 l) (Scalar.select (Scalar.cmpi CmpIPredicate.eq 2#32 0#32) 1#32 2#32)) 0#32)
          (Scalar.cmpi CmpIPredicate.slt (Scalar.select (Scalar.cmpi CmpIPredicate.eq 2#32 0#32) 1#32 2#32) 0#32))
        (IntOp.cmpi CmpIPredicate.ne
          (IntOp.remsi ArithUnit.vector (BitVec.ofNat 32 l) (Scalar.select (Scalar.cmpi CmpIPredicate.eq 2#32 0#32) 1#32 2#32)) 0#32))
      (IntOp.addi
        (IntOp.remsi ArithUnit.vector (BitVec.ofNat 32 l) (Scalar.select (Scalar.cmpi CmpIPredicate.eq 2#32 0#32) 1#32 2#32))
        (Scalar.select (Scalar.cmpi CmpIPredicate.eq 2#32 0#32) 1#32 2#32))
      (IntOp.remsi ArithUnit.vector (BitVec.ofNat 32 l) (Scalar.select (Scalar.cmpi CmpIPredicate.eq 2#32 0#32) 1#32 2#32)))
    0#32

theorem evenLane_eq : ∀ l : Fin 128, evenLane l.val = if l.val % 2 = 0 then 1#1 else 0#1 := by decide +kernel

/-- The kernel's swap of a pair's lanes: of two rotations by one lane it selects by the lane's parity. -/
theorem select_swap (f : Fin 128 → EReal) (l : Fin 128) (h h') :
    Scalar.select (evenLane l.val) (f ⟨(l.val + 128 - 127) % 128, h⟩) (f ⟨(l.val + 128 - 1) % 128, h'⟩) = f (Spec.swap l) := by
  rw [evenLane_eq]
  unfold Spec.swap
  by_cases e : l.val % 2 = 0
  · rw [if_pos e, if_pos e]; rfl
  · rw [if_neg e, if_neg e]; rfl

/-- The mean of the squares of row `r`, plus the constant. -/
def meanSq (v : FVec Ideal S512x128 .f32) : FVec Ideal S512x1 .f32 :=
  addf (divf (shapeCast S512x1 (multiReduction .add [1] S512 (mulf v v) 0x00000000#32 reduces_S512x128_S512 (.inl rfl) rfl) shapeCasts_S512_S512x1)
    (broadcast S512x1 (Scalar.ofBits .f32 0x43000000#32))) (broadcast S512x1 (Scalar.ofBits .f32 0x358637BD#32))

/-- What the kernel does with a head's projected columns `v`: every head's stored value is this term, written out anew by the kernel. -/
def headOf (v cosn sinn : FVec Ideal S512x128 .f32) : FVec Ideal S512x128 .bf16 := k0_pay1 cosn sinn v (meanSq v)

theorem head_apply (v cosn sinn : FVec Ideal S512x128 .f32) (r : Fin 512) (l : Fin 128) :
    headOf v cosn sinn (ix2 r l) = (v (ix2 r l) * cosn (ix2 r l) + v (ix2 r (Spec.swap l)) * sinn (ix2 r l))
      * Ideal.div 1 (Spec.rms fun x => v (ix2 r x)) := by
  unfold headOf k0_pay1 meanSq
  pointwise
  rw [← select_swap (fun x => v (ix2 r x)) l]
  rfl

/-- The cosines times the norm's weights. -/
theorem cosn_apply (x5 : Vec Ideal S1x1x128 .f32) (x6 : Vec Ideal S512x128 .f32) (r : Fin 512) (l : Fin 128) :
    k0_pay3 x5 x6 (ix2 r l) = x6 (ix2 r l) * x5 (ix3 0 0 l) := by
  unfold_payloads
  pointwise

/-- The sines times the other lane's norm weight. -/
theorem sinn_apply (x5 : Vec Ideal S1x1x128 .f32) (x7 : Vec Ideal S512x128 .f32) (r : Fin 512) (l : Fin 128) :
    k0_pay4 x5 x7 (ix2 r l) = x7 (ix2 r l) * x5 (ix3 0 0 (Spec.swap l)) := by
  unfold_payloads
  pointwise
  rw [← select_swap (fun x => x5 (ix3 0 0 x)) l]
  rfl

end Cert.QkIdeal.Hand

end
-- ==== Proof.QkBlock.lean ====
/- The query/key projection, one block: what the kernel body leaves in its output block, as one formula of the blocks it reads. -/
module

public import proofs.«01_k».proof.Proof.QkHead
public import Idealize.ShloMosaic.Lib.Pipeline.ValueKit

@[expose] public section

noncomputable section

namespace Cert.QkIdeal.Hand

open Cert.QkIdeal Cert.QkIdeal.Gen Idealize.ShloMosaic Idealize.ShloMosaic.TcCoe Idealize.SL.Sem
open scoped BigOperators

/-- Element (row, column) of a block's projection: `p * a * w + bias`, where `p` is the product of codes and `a` the row scale. -/
def projBlock (x0 : Vec Ideal S512x3072 .fp8e4m3) (a : Fin 512 → EReal)
    (x2 : Vec Ideal S3072x1024 .fp8e4m3) (x3 x4 : Vec Ideal S1x1024 .f32) (r : Fin 512) (n : Fin 1024) : EReal :=
  (∑ k : Fin 3072, x0 (ix2 r k) * x2 (ix2 k n)) * a r * x3 (ix2 0 n) + x4 (ix2 0 n)

/-- Lane `l` of the head `p` of a block. -/
def blockCol (p : Fin 8) (l : Fin 128) : Fin 1024 := ⟨128 * p.val + l.val, by omega⟩
/-- The head of a block's column, and the column's place in it. -/
def blockHead (n : Fin 1024) : Fin 8 := ⟨n.val / 128, by omega⟩
def blockLane (n : Fin 1024) : Fin 128 := ⟨n.val % 128, by omega⟩

theorem blockHead_col (p : Fin 8) (l : Fin 128) : blockHead (blockCol p l) = p := by
  apply Fin.ext; show (128 * p.val + l.val) / 128 = p.val; omega
theorem blockLane_col (p : Fin 8) (l : Fin 128) : blockLane (blockCol p l) = l := by
  apply Fin.ext; show (128 * p.val + l.val) % 128 = l.val; omega

/-- Lane `l` of head `p` after the norm and the rotation, `v` being the projection's columns, in the kernel's order of operations. -/
def rotBlock (v : Fin 1024 → EReal) (w c s : Fin 128 → EReal) (p : Fin 8) (l : Fin 128) : EReal :=
  (v (blockCol p l) * (c l * w l) + v (blockCol p (Spec.swap l)) * (s l * w (Spec.swap l))) * Ideal.div 1 (Spec.rms fun x => v (blockCol p x))

/-- Element (row, column) of an output block. -/
def blockAt (x0 : Vec Ideal S512x3072 .fp8e4m3) (a : Fin 512 → EReal)
    (x2 : Vec Ideal S3072x1024 .fp8e4m3) (x3 x4 : Vec Ideal S1x1024 .f32) (x5 : Vec Ideal S1x1x128 .f32) (x6 x7 : Vec Ideal S512x128 .f32)
    (y : S512x1024.Idx) : Elt Ideal .bf16 :=
  rotBlock (projBlock x0 a x2 x3 x4 (y 0)) (fun l => x5 (ix3 0 0 l)) (fun l => x6 (ix2 (y 0) l)) (fun l => x7 (ix2 (y 0) l))
    (blockHead (y 1)) (blockLane (y 1))

/-- A head's stored value is its part of `blockAt`, when the head's projected columns `v` are. -/
theorem piece_eq (x0 : Vec Ideal S512x3072 .fp8e4m3) (a : Fin 512 → EReal)
    (x2 : Vec Ideal S3072x1024 .fp8e4m3) (x3 x4 : Vec Ideal S1x1024 .f32) (x5 : Vec Ideal S1x1x128 .f32) (x6 x7 : Vec Ideal S512x128 .f32)
    (v : FVec Ideal S512x128 .f32) (p : Fin 8) (hv : ∀ r l, v (ix2 r l) = projBlock x0 a x2 x3 x4 r (blockCol p l)) (r : Fin 512) (l : Fin 128) :
    headOf v (k0_pay3 (View.ld x5 r0_0) (View.ld x6 r0_1)) (k0_pay4 (View.ld x5 r0_0) (View.ld x7 r0_1)) (ix2 r l)
      = blockAt x0 a x2 x3 x4 x5 x6 x7 (ix2 r (blockCol p l)) := by
  have e5 : ∀ k, View.ld x5 r0_0 (ix3 0 0 k) = x5 (ix3 0 0 k) := fun k => by pointwise
  have e6 : View.ld x6 r0_1 (ix2 r l) = x6 (ix2 r l) := by pointwise
  have e7 : View.ld x7 r0_1 (ix2 r l) = x7 (ix2 r l) := by pointwise
  rw [head_apply, cosn_apply, sinn_apply]
  simp only [hv, e5, e6, e7]
  show _ = rotBlock _ _ _ _ (blockHead (blockCol p l)) (blockLane (blockCol p l))
  rw [blockHead_col, blockLane_col]
  rfl

/-- The same over a whole store: `emb` places the head's columns in the block. -/
theorem store_eq (x0 : Vec Ideal S512x3072 .fp8e4m3) (a : Fin 512 → EReal)
    (x2 : Vec Ideal S3072x1024 .fp8e4m3) (x3 x4 : Vec Ideal S1x1024 .f32) (x5 : Vec Ideal S1x1x128 .f32) (x6 x7 : Vec Ideal S512x128 .f32)
    (v : FVec Ideal S512x128 .f32) (p : Fin 8) (hv : ∀ r l, v (ix2 r l) = projBlock x0 a x2 x3 x4 r (blockCol p l))
    (emb : S512x128.Idx → S512x1024.Idx) (he : ∀ r l, emb (ix2 r l) = ix2 r (blockCol p l)) (z : S512x128.Idx) :
    headOf v (k0_pay3 (View.ld x5 r0_0) (View.ld x6 r0_1)) (k0_pay4 (View.ld x5 r0_0) (View.ld x7 r0_1)) z
      = blockAt x0 a x2 x3 x4 x5 x6 x7 (emb z) := by
  idx_vars z
  exact (piece_eq x0 a x2 x3 x4 x5 x6 x7 v p hv z0 z1).trans (congrArg _ (he z0 z1).symm)

set_option maxRecDepth 16384 in
/-- The body's output block is `blockAt` of its input blocks, when the block of row scales holds one scale per row in every lane. -/
theorem out_eq (x0 : Vec Ideal S512x3072 .fp8e4m3) (x1 : Vec Ideal S512x128 .f32)
    (x2 : Vec Ideal S3072x1024 .fp8e4m3) (x3 x4 : Vec Ideal S1x1024 .f32) (x5 : Vec Ideal S1x1x128 .f32) (x6 x7 : Vec Ideal S512x128 .f32)
    (a : Fin 512 → EReal) (ha : ∀ r l, x1 (ix2 r l) = a r) (y : S512x1024.Idx) :
    out0_8 x0 x1 x2 x3 x4 x5 x6 x7 y = blockAt x0 a x2 x3 x4 x5 x6 x7 y := by
  unfold_out out0_8
  refine View.canon_apply_of_pieces (Val := Elt Ideal) (e := .bf16) (blockAt x0 a x2 x3 x4 x5 x6 x7) _ ?_ y (cover0_8 _ _ _ _ _ _ _ _ y)
  simp only [List.forall_mem_cons, List.not_mem_nil, false_implies, implies_true, and_true]
  refine ⟨store_eq x0 a x2 x3 x4 x5 x6 x7 _ 7 ?v7 _ ?e7, store_eq x0 a x2 x3 x4 x5 x6 x7 _ 6 ?v6 _ ?e6,
    store_eq x0 a x2 x3 x4 x5 x6 x7 _ 5 ?v5 _ ?e5, store_eq x0 a x2 x3 x4 x5 x6 x7 _ 4 ?v4 _ ?e4,
    store_eq x0 a x2 x3 x4 x5 x6 x7 _ 3 ?v3 _ ?e3, store_eq x0 a x2 x3 x4 x5 x6 x7 _ 2 ?v2 _ ?e2,
    store_eq x0 a x2 x3 x4 x5 x6 x7 _ 1 ?v1 _ ?e1, store_eq x0 a x2 x3 x4 x5 x6 x7 _ 0 ?v0 _ ?e0⟩
  case e0 | e1 | e2 | e3 | e4 | e5 | e6 | e7 => intro z0 z1; blk_ext [blockCol]
  all_goals
    intro r l
    unfold_payloads
    pointwise [projBlock, blockCol, ha, Nat.zero_add]
    try simp only [← Nat.add_assoc, Nat.reduceAdd]

end Cert.QkIdeal.Hand

end
-- ==== Proof.QkHost.lean ====
/- The query/key projection: the arrays the host operations make before the region, read element by element. -/
module

public import proofs.«01_k».proof.Proof.QkSpec
public import proofs.«01_k».proof.Proof.Gen.QkIdeal.Frame
public import Idealize.ShloMosaic.Lib.Pipeline.ValueKit

@[expose] public section

noncomputable section

namespace Cert.QkIdeal.Hand

open Cert.QkIdeal Cert.QkIdeal.Gen Idealize.ShloMosaic Idealize.ShloMosaic.TcCoe Idealize.SL.Sem

variable (m : (ℓ : Loc nD τ sig) → Buf (Elt Ideal) ℓ)

theorem V19 (c : Dev nD) : V m c main_v19 = shapeCast S6144x3072 (m ((c : Thread nD τ).loc main_arg0)) shapeCasts_S4x1536x3072_S6144x3072 := by
  simp only [V, List.flatten_cons, List.flatten_nil, List.append_nil, List.cons_append, List.nil_append]; after_results; rfl

theorem V21 (c : Dev nD) : V m c main_v21 = broadcastInDim S6144x128 ![0, 1] bcast_S6144x1_S6144x128_0_1 (shapeCast S6144x1 (m ((c : Thread nD τ).loc main_arg1)) shapeCasts_S4x1536_S6144x1) := by
  simp only [V, List.flatten_cons, List.flatten_nil, List.append_nil, List.cons_append, List.nil_append]; after_results; rfl

theorem V22 (c : Dev nD) : V m c main_v22 = broadcastInDim S1x21504 ![1] bcast_S21504_S1x21504_1 (m ((c : Thread nD τ).loc main_arg3)) := by
  simp only [V, List.flatten_cons, List.flatten_nil, List.append_nil, List.cons_append, List.nil_append]; after_results

theorem V23 (c : Dev nD) : V m c main_v23 = broadcastInDim S1x21504 ![1] bcast_S21504_S1x21504_1 (m ((c : Thread nD τ).loc main_arg4)) := by
  simp only [V, List.flatten_cons, List.flatten_nil, List.append_nil, List.cons_append, List.nil_append]; after_results

theorem V3 (c : Dev nD) : V m c main_v3 = broadcastInDim S2x1x128 ![0, 2] bcast_S2x128_S2x1x128_0_2
    (concatenate S2x128 0 [⟨S1x128, broadcastInDim S1x128 ![1] bcast_S128_S1x128_1 (m ((c : Thread nD τ).loc main_arg5))⟩,
      ⟨S1x128, broadcastInDim S1x128 ![1] bcast_S128_S1x128_1 (m ((c : Thread nD τ).loc main_arg6))⟩] concatenates_S1x128_S1x128_S2x128_d0) := by
  simp only [V, List.flatten_cons, List.flatten_nil, List.append_nil, List.cons_append, List.nil_append]; after_results

theorem V12 (c : Dev nD) : V m c main_v12 = shapeCast S6144x128 (shapeCast S4x1536x128
    (broadcastInDim S4x1536x64x2 ![0, 1, 2] bcast_S4x1536x64_S4x1536x64x2_0_1_2 (m ((c : Thread nD τ).loc main_arg7)))
    shapeCasts_S4x1536x64x2_S4x1536x128) shapeCasts_S4x1536x128_S6144x128 := by
  simp only [V, List.flatten_cons, List.flatten_nil, List.append_nil, List.cons_append, List.nil_append]; after_results; rfl

/-- The divisor of the host's remainder: 2, where it is not 0. -/
def two : IVec S_ 32 := select (cmpi .eq (constantI S_ 32 2#32) (constantI S_ 32 0#32)) (constantI S_ 32 1#32) (constantI S_ 32 2#32)
/-- The machine's remainder of the lane numbers by 2. -/
def remv : IVec S128 32 := Host.remsi (iotaInDim S128 32 0) (broadcastInDim S128 ![] bcast_S_S128 two)
/-- The remainder with the divisor's sign. -/
def remp : IVec S128 32 :=
  select (andi (cmpi .ne (cmpi .slt remv (broadcastInDim S128 ![] bcast_S_S128 (constantI S_ 32 0#32)))
      (broadcastInDim S128 ![] bcast_S_S128 (cmpi .slt two (constantI S_ 32 0#32))))
    (cmpi .ne remv (broadcastInDim S128 ![] bcast_S_S128 (constantI S_ 32 0#32))))
    (addi remv (broadcastInDim S128 ![] bcast_S_S128 two)) remv
/-- The sines' signs: -1 in even lanes, 1 in odd lanes. -/
def signs : FVec Ideal S128 .f32 :=
  select (cmpi .eq remp (broadcastInDim S128 ![] bcast_S_S128 (constantI S_ 32 0#32)))
    (broadcastInDim S128 ![] bcast_S_S128 (constant S_ .f32 0xBF800000#32)) (broadcastInDim S128 ![] bcast_S_S128 (constant S_ .f32 0x3F800000#32))

theorem V18 (c : Dev nD) : V m c main_v18 = shapeCast S6144x128 (mulf (shapeCast S4x1536x128
    (broadcastInDim S4x1536x64x2 ![0, 1, 2] bcast_S4x1536x64_S4x1536x64x2_0_1_2 (m ((c : Thread nD τ).loc main_arg8)))
    shapeCasts_S4x1536x64x2_S4x1536x128)
    (broadcastInDim S4x1536x128 ![0, 1, 2] bcast_S1x1x128_S4x1536x128_0_1_2 (broadcastInDim S1x1x128 ![2] bcast_S128_S1x1x128_2 signs)))
    shapeCasts_S4x1536x128_S6144x128 := by
  simp only [V, List.flatten_cons, List.flatten_nil, List.append_nil, List.cons_append, List.nil_append]; after_results; rfl

theorem sign_bits : Ideal.ofBits .f32 0xBF800000#32 = -1 := by
  have : (-1 : EReal) = ((-1 : ℝ) : EReal) := by simp
  rw [this]
  simp [Ideal.ofBits, Ideal.ieee, -EReal.coe_mul, -EReal.coe_neg]; norm_num

theorem test_apply : ∀ l : Fin 128, cmpi .eq remp (broadcastInDim S128 ![] bcast_S_S128 (constantI S_ 32 0#32)) (ix1 l)
    = if l.val % 2 = 0 then 1#1 else 0#1 := by
  intro l
  pointwise [remp, remv, two]
  revert l
  decide +kernel

theorem signs_apply (l : Fin 128) : signs (ix1 l) = Spec.sgn l := by
  have e : signs (ix1 l) = Scalar.select (cmpi .eq remp (broadcastInDim S128 ![] bcast_S_S128 (constantI S_ 32 0#32)) (ix1 l))
      (Ideal.ofBits .f32 0xBF800000#32) (Ideal.ofBits .f32 0x3F800000#32) := rfl
  rw [e, test_apply, sign_bits, Ideal.ofBits_one_f32]
  unfold Spec.sgn
  by_cases h : l.val % 2 = 0
  · rw [if_pos h, if_pos h]; rfl
  · rw [if_neg h, if_neg h]; rfl

/-- A (4, 1536, 64) array with every entry twice, read at lane `l`: the lane's pair. -/
theorem pairs_apply {α : Type} (x : S4x1536x64.Idx → α) (b : Fin 4) (s : Fin 1536) (l : Fin 128) :
    shapeCast S4x1536x128 (broadcastInDim S4x1536x64x2 ![0, 1, 2] bcast_S4x1536x64_S4x1536x64x2_0_1_2 x) shapeCasts_S4x1536x64x2_S4x1536x128 (ix3 b s l)
      = x (ix3 b s (Spec.pair l)) := by
  pointwise [Spec.pair]

/-- The cosines the region finds. -/
theorem cos_apply (c : Dev nD) (r : Fin 6144) (l : Fin 128) :
    V m c main_v12 (ix2 r l) = m ((c : Thread nD τ).loc main_arg7) (ix3 (Spec.batch r) (Spec.place r) (Spec.pair l)) := by
  refine (congrFun (V12 m c) _).trans ?_
  exact (Spec.flat_apply (N := 128) _ _ r l).trans (pairs_apply _ _ _ _)

/-- The sines the region finds, with their signs. -/
theorem sin_apply (c : Dev nD) (r : Fin 6144) (l : Fin 128) :
    V m c main_v18 (ix2 r l) = HMul.hMul (α := EReal) (β := EReal) (m ((c : Thread nD τ).loc main_arg8) (ix3 (Spec.batch r) (Spec.place r) (Spec.pair l))) (Spec.sgn l) := by
  refine (congrFun (V18 m c) _).trans ?_
  refine (Spec.flat_apply (N := 128) _ _ r l).trans ?_
  refine Ideal.mul_congr (pairs_apply _ _ _ _) ?_
  rw [← signs_apply l]
  generalize Spec.batch r = b
  generalize Spec.place r = s
  pointwise

/-- The norm's weights the region finds: of the queries, then of the keys. -/
theorem nw_apply (c : Dev nD) (q : Fin 2) (l : Fin 128) :
    V m c main_v3 (ix3 q 0 l) = if q.val = 0 then m ((c : Thread nD τ).loc main_arg5) (ix1 l) else m ((c : Thread nD τ).loc main_arg6) (ix1 l) := by
  refine (congrFun (V3 m c) _).trans ?_
  pointwise
  by_cases h : q.val = 0
  · rw [dif_pos (by omega), if_pos h]
  · rw [dif_neg (by omega), if_neg h]

end Cert.QkIdeal.Hand

end
-- ==== Proof.QkValue.lean ====
/- The query/key projection: the kernel's result array is `Spec.qkAt` of the arguments. -/
module

public import proofs.«01_k».proof.Proof.QkBlock
public import proofs.«01_k».proof.Proof.QkHost

@[expose] public section

noncomputable section

namespace Cert.QkIdeal.Hand

open Cert.QkIdeal Cert.QkIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-! ## Which block each window holds at a point: row block `i`, column block `j` of the output block; column blocks 0-2 are the queries -/

theorem idx_facts : ∀ t : Fin cfg0.N, win0_0.index t = ![win0_8.index t 0, 0] ∧ win0_1.index t = ![win0_8.index t 0, 0]
    ∧ win0_2.index t = ![0, win0_8.index t 1] ∧ win0_3.index t = ![0, win0_8.index t 1]
    ∧ win0_4.index t = ![0, win0_8.index t 1] ∧ win0_5.index t = ![win0_8.index t 1 / 3, 0, 0]
    ∧ win0_6.index t = ![win0_8.index t 0, 0] ∧ win0_7.index t = ![win0_8.index t 0, 0]
    ∧ win0_8.index t 0 < 12 ∧ win0_8.index t 1 < 6 :=
  (by decide +kernel : ∀ t : Fin grid0.N, _)

theorem row_lt (t : Fin cfg0.N) : win0_8.index t 0 < 12 := (idx_facts t).2.2.2.2.2.2.2.2.1
theorem col_lt (t : Fin cfg0.N) : win0_8.index t 1 < 6 := (idx_facts t).2.2.2.2.2.2.2.2.2

/-- The array row of row `r` of point `t`'s block. -/
def row (t : Fin cfg0.N) (r : Fin 512) : Fin 6144 := ⟨win0_8.index t 0 * 512 + r.val, by have := row_lt t; omega⟩
/-- The array column of column `n` of point `t`'s block. -/
def col (t : Fin cfg0.N) (n : Fin 1024) : Fin 6144 := ⟨win0_8.index t 1 * 1024 + n.val, by have := col_lt t; omega⟩
/-- A column of the result, as a column of `w1`. -/
def wcol (n : Fin 6144) : Fin 21504 := ⟨n.val, by omega⟩
/-- The queries' weights or the keys', by the column block. -/
def part (t : Fin cfg0.N) : Fin 2 := ⟨win0_8.index t 1 / 3, by have := col_lt t; omega⟩

/-! ## Each block, read in the arguments -/

theorem blk0 (c : Dev nD) (t : Fin cfg0.N) (r : Fin 512) (k : Fin 3072) :
    (iblk m c 0 t : Vec Ideal S512x3072 .fp8e4m3) (ix2 r k) = m ((c : Thread nD τ).loc main_arg0) (ix3 (Spec.batch (row t r)) (Spec.place (row t r)) k) := by
  obtain ⟨e0, -⟩ := idx_facts t
  have e : (win0_0.blk t).view.emb (ix2 r k) = ix2 (row t r) k := by blk_ext [e0, row]
  blk_simp [iblk, e]
  refine (congrFun (V19 m c) _).trans ?_
  exact Spec.flat_apply _ _ _ _

theorem blk1 (c : Dev nD) (t : Fin cfg0.N) (r : Fin 512) (k : Fin 128) :
    (iblk m c 1 t : Vec Ideal S512x128 .f32) (ix2 r k) = m ((c : Thread nD τ).loc main_arg1) (ix2 (Spec.batch (row t r)) (Spec.place (row t r))) := by
  obtain ⟨-, e0, -⟩ := idx_facts t
  have e : (win0_1.blk t).view.emb (ix2 r k) = ix2 (row t r) k := by blk_ext [e0, row]
  blk_simp [iblk, e]
  refine (congrFun (V21 m c) _).trans ?_
  exact Spec.lanes_apply _ _ _ _ _

theorem blk2 (c : Dev nD) (t : Fin cfg0.N) (k : Fin 3072) (n : Fin 1024) :
    (iblk m c 2 t : Vec Ideal S3072x1024 .fp8e4m3) (ix2 k n) = m ((c : Thread nD τ).loc main_arg2) (ix2 k (wcol (col t n))) := by
  obtain ⟨-, -, e0, -⟩ := idx_facts t
  have e : (win0_2.blk t).view.emb (ix2 k n) = ix2 k (wcol (col t n)) := by blk_ext [e0, col, wcol]
  blk_simp [iblk, e]
  exact congrFun (V_main_arg2 m c) _

theorem blk3 (c : Dev nD) (t : Fin cfg0.N) (n : Fin 1024) :
    (iblk m c 3 t : Vec Ideal S1x1024 .f32) (ix2 0 n) = m ((c : Thread nD τ).loc main_arg3) (ix1 (wcol (col t n))) := by
  obtain ⟨-, -, -, e0, -⟩ := idx_facts t
  have e : (win0_3.blk t).view.emb (ix2 0 n) = ix2 0 (wcol (col t n)) := by blk_ext [e0, col, wcol]
  blk_simp [iblk, e]
  refine (congrFun (V22 m c) _).trans ?_
  pointwise

theorem blk4 (c : Dev nD) (t : Fin cfg0.N) (n : Fin 1024) :
    (iblk m c 4 t : Vec Ideal S1x1024 .f32) (ix2 0 n) = m ((c : Thread nD τ).loc main_arg4) (ix1 (wcol (col t n))) := by
  obtain ⟨-, -, -, -, e0, -⟩ := idx_facts t
  have e : (win0_4.blk t).view.emb (ix2 0 n) = ix2 0 (wcol (col t n)) := by blk_ext [e0, col, wcol]
  blk_simp [iblk, e]
  refine (congrFun (V23 m c) _).trans ?_
  pointwise

theorem blk5 (c : Dev nD) (t : Fin cfg0.N) (l : Fin 128) :
    (iblk m c 5 t : Vec Ideal S1x1x128 .f32) (ix3 0 0 l)
      = if (part t).val = 0 then m ((c : Thread nD τ).loc main_arg5) (ix1 l) else m ((c : Thread nD τ).loc main_arg6) (ix1 l) := by
  obtain ⟨-, -, -, -, -, e0, -⟩ := idx_facts t
  have e : (win0_5.blk t).view.emb (ix3 0 0 l) = ix3 (part t) 0 l := by blk_ext [e0, part]
  blk_simp [iblk, e]
  exact nw_apply m c _ l

theorem blk6 (c : Dev nD) (t : Fin cfg0.N) (r : Fin 512) (l : Fin 128) :
    (iblk m c 6 t : Vec Ideal S512x128 .f32) (ix2 r l) = m ((c : Thread nD τ).loc main_arg7) (ix3 (Spec.batch (row t r)) (Spec.place (row t r)) (Spec.pair l)) := by
  obtain ⟨-, -, -, -, -, -, e0, -⟩ := idx_facts t
  have e : (win0_6.blk t).view.emb (ix2 r l) = ix2 (row t r) l := by blk_ext [e0, row]
  blk_simp [iblk, e]
  exact cos_apply m c _ l

theorem blk7 (c : Dev nD) (t : Fin cfg0.N) (r : Fin 512) (l : Fin 128) :
    (iblk m c 7 t : Vec Ideal S512x128 .f32) (ix2 r l)
      = HMul.hMul (α := EReal) (β := EReal) (m ((c : Thread nD τ).loc main_arg8) (ix3 (Spec.batch (row t r)) (Spec.place (row t r)) (Spec.pair l))) (Spec.sgn l) := by
  obtain ⟨-, -, -, -, -, -, -, e0, -⟩ := idx_facts t
  have e : (win0_7.blk t).view.emb (ix2 r l) = ix2 (row t r) l := by blk_ext [e0, row]
  blk_simp [iblk, e]
  exact sin_apply m c _ l

/-! ## The result array -/

/-- Element (r, n) of the result, of device `c`'s arguments. -/
def resAt (c : Dev nD) (r : Fin 6144) (n : Fin 6144) : EReal :=
  Spec.qkAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) r n

/-- A block's projection is the whole projection at the block's rows and columns. -/
theorem proj_blk (c : Dev nD) (t : Fin cfg0.N) (r : Fin 512) (n : Fin 1024) :
    projBlock (iblk m c 0 t) (fun r => m ((c : Thread nD τ).loc main_arg1) (ix2 (Spec.batch (row t r)) (Spec.place (row t r))))
      (iblk m c 2 t) (iblk m c 3 t) (iblk m c 4 t) r n
    = Spec.projAt (m ((c : Thread nD τ).loc main_arg0)) (m ((c : Thread nD τ).loc main_arg1)) (m ((c : Thread nD τ).loc main_arg2))
      (m ((c : Thread nD τ).loc main_arg3)) (m ((c : Thread nD τ).loc main_arg4)) (row t r) (wcol (col t n)) :=
  Ideal.add_congr (Ideal.mul_congr
    (Ideal.mul_congr (Finset.sum_congr rfl fun k _ => Ideal.mul_congr (blk0 m c t r k) (blk2 m c t k n)) rfl)
    (blk3 m c t n)) (blk4 m c t n)

/-- A block's head is the head of the array's column. -/
theorem head_col (t : Fin cfg0.N) (n : Fin 1024) (l : Fin 128) : wcol (col t (blockCol (blockHead n) l)) = Spec.headCol (col t n) l := by
  apply Fin.ext
  show win0_8.index t 1 * 1024 + (128 * (n.val / 128) + l.val) = (win0_8.index t 1 * 1024 + n.val) / 128 * 128 + l.val
  omega

theorem lane_col (t : Fin cfg0.N) (n : Fin 1024) : blockLane n = Spec.lane (col t n) := by
  apply Fin.ext
  show n.val % 128 = (win0_8.index t 1 * 1024 + n.val) % 128
  omega

theorem part_col (t : Fin cfg0.N) (n : Fin 1024) : ((part t).val = 0) = ((col t n).val < 3072) := by
  apply propext
  show win0_8.index t 1 / 3 = 0 ↔ win0_8.index t 1 * 1024 + n.val < 3072
  omega

/-- What the body leaves at a point is its block of the result. -/
theorem block_eq (c : Dev nD) (t : Fin cfg0.N) (r : Fin 512) (n : Fin 1024) :
    blockAt (iblk m c 0 t) (fun r => m ((c : Thread nD τ).loc main_arg1) (ix2 (Spec.batch (row t r)) (Spec.place (row t r))))
      (iblk m c 2 t) (iblk m c 3 t) (iblk m c 4 t) (iblk m c 5 t) (iblk m c 6 t) (iblk m c 7 t) (ix2 r n)
    = resAt m c (row t r) (col t n) := by
  unfold resAt Spec.qkAt
  rw [← Spec.fold_eq]
  show rotBlock _ _ _ _ (blockHead n) (blockLane n) = _
  unfold rotBlock
  have h := fun l => (proj_blk m c t r (blockCol (blockHead n) l)).trans (congrArg _ (head_col t n l))
  have h5 : ∀ l, (iblk m c 5 t : Vec Ideal S1x1x128 .f32) (ix3 0 0 l) = if (col t n).val < 3072 then m ((c : Thread nD τ).loc main_arg5) (ix1 l) else m ((c : Thread nD τ).loc main_arg6) (ix1 l) := by
    intro l
    rw [blk5]
    simp only [part_col t n]
  have h6 : ∀ l, (iblk m c 6 t : Vec Ideal S512x128 .f32) (ix2 r l) = _ := fun l => blk6 m c t r l
  have h7 : ∀ l, (iblk m c 7 t : Vec Ideal S512x128 .f32) (ix2 r l) = _ := fun l => blk7 m c t r l
  rw [lane_col t n]
  generalize Spec.lane (col t n) = l
  refine Ideal.mul_congr (Ideal.add_congr (Ideal.mul_congr (h _) (Ideal.mul_congr (h6 _) (h5 _)))
    (Ideal.mul_congr (h _) (Ideal.mul_congr (h7 _) (h5 _)))) ?_
  exact congrArg (fun v => Ideal.div 1 (Spec.rms v)) (funext h)

/-- The result array after the run holds `resAt` at every index: each point writes its block of it, and the blocks cover the array. -/
theorem final (c : Dev nD) : (dats m 0 c).arrAt 8 cfg0.N = fun i : S6144x6144.Idx => resAt m c (i 0) (i 1) := by
  refine (dats m 0 c).arrAt_eq_of_covers 8 _ (by decide +kernel) fun t _ y => ?_
  idx_vars y
  have e : (win0_8.blk t).view.emb (ix2 y0 y1) = ix2 (row t y0) (col t y1) := by blk_ext [row, col]
  blk_simp [e]
  rw [after0_8]
  exact (out_eq _ _ _ _ _ _ _ _ (fun r => m ((c : Thread nD τ).loc main_arg1) (ix2 (Spec.batch (row t r)) (Spec.place (row t r))))
    (blk1 m c t) (ix2 y0 y1)).trans (block_eq m c t y0 y1)

end Cert.QkIdeal.Hand

end
-- ==== Proof.QkRefValue.lean ====
/- The query/key projection's reference: its region leaves the product of codes, and its result array is a formula of `Spec.projAt`. -/
module

public import proofs.«01_k».proof.Proof.ProjSpec
public import proofs.«01_k».proof.Proof.Gen.QkRefIdeal.Run
public import proofs.«01_k».proof.Proof.Gen.QkRefIdeal.Read
public import Idealize.ShloMosaic.Lib.Pipeline.ValueKit

@[expose] public section

noncomputable section

namespace Cert.QkRefIdeal.Hand

open Cert.QkRefIdeal Cert.QkRefIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-! ## What the region finds -/

theorem arr0 (c : Dev nD) : V m c main_v0 = shapeCast S6144x3072 (m ((c : Thread nD τ).loc main_arg0)) shapeCasts_S4x1536x3072_S6144x3072 := by
  simp only [V, Gen.V0, List.flatten_cons, List.flatten_nil, List.append_nil]; after_results; rfl

/-! ## The product the region computes -/

theorem idx_facts : ∀ t : Fin cfg0.N, win0_0.index t = ![0, 0] ∧ win0_1.index t = ![0, 0] ∧ win0_2.index t = ![0, 0] :=
  (by decide +kernel : ∀ t : Fin grid0.N, _)

theorem blk0 (c : Dev nD) (t : Fin cfg0.N) (r : Fin 6144) (k : Fin 3072) :
    (iblk m c 0 t : Vec Ideal S6144x3072 .fp8e4m3) (ix2 r k) = m ((c : Thread nD τ).loc main_arg0) (ix3 (Spec.batch r) (Spec.place r) k) := by
  obtain ⟨e0, -⟩ := idx_facts t
  have e : (win0_0.blk t).view.emb (ix2 r k) = ix2 r k := by blk_ext [e0]
  blk_simp [iblk, e]
  exact (congrFun (arr0 m c) _).trans (Spec.flat_apply _ _ _ _)

theorem blk1 (c : Dev nD) (t : Fin cfg0.N) (k : Fin 3072) (n : Fin 21504) :
    (iblk m c 1 t : Vec Ideal S3072x21504 .fp8e4m3) (ix2 k n) = m ((c : Thread nD τ).loc main_arg2) (ix2 k n) := by
  obtain ⟨-, e0, -⟩ := idx_facts t
  have e : (win0_1.blk t).view.emb (ix2 k n) = ix2 k n := by blk_ext [e0]
  blk_simp [iblk, e]
  exact congrFun (V_main_arg2 m c) _

/-- The product of codes at row `r` and column `n`. -/
def prodAt (xc : S4x1536x3072.Idx → EReal) (w1 : S3072x21504.Idx → EReal) (r : Fin 6144) (n : Fin 21504) : EReal :=
  ∑ k : Fin 3072, xc (ix3 (Spec.batch r) (Spec.place r) k) * w1 (ix2 k n)

/-- The region leaves the product in its result array. -/
theorem prod (c : Dev nD) : Value.reg_main_v1 m c
    = fun i : S6144x21504.Idx => prodAt (m ((c : Thread nD τ).loc main_arg0)) (m ((c : Thread nD τ).loc main_arg2)) (i 0) (i 1) := by
  refine (dats m 0 c).arrAt_eq_of_covers 2 _ (by decide +kernel) fun t _ y => ?_
  idx_vars y
  obtain ⟨-, -, e0⟩ := idx_facts t
  have e : (win0_2.blk t).view.emb (ix2 y0 y1) = ix2 y0 y1 := by blk_ext [e0]
  blk_simp [e]
  rw [after0_2]
  unfold out0_2
  rw [View.canon_unit_zero (by decide)]
  unfold_payloads
  pointwise
  exact Finset.sum_congr (M := EReal) rfl fun k _ => Ideal.mul_congr (blk0 m c t y0 k) (blk1 m c t k y1)

/-! ## The host operations after the region -/

/-- The whole input projection, at row `r` and column `n`, of the arguments and the product. -/
theorem proj_apply (x1 : (⟨S4x1536, .f32⟩ : BufTy).Contents (Elt Ideal)) (x3 x4 : (⟨S21504, .f32⟩ : BufTy).Contents (Elt Ideal))
    (r0 : (⟨S6144x21504, .f32⟩ : BufTy).Contents (Elt Ideal)) (r : Fin 6144) (n : Fin 21504) :
    Read.val_main_v11 x1 x3 x4 r0 (ix3 (Spec.batch r) (Spec.place r) n)
      = r0 (ix2 r n) * x1 (ix2 (Spec.batch r) (Spec.place r)) * x3 (ix1 n) + x4 (ix1 n) := by
  have h0 := Spec.unflat_apply (N := 21504) r0 shapeCasts_S6144x21504_S4x1536x21504 (Spec.batch r) (Spec.place r) n
  rw [Spec.flatRow_batch_place] at h0
  rw [← h0]
  generalize Spec.batch r = b
  generalize Spec.place r = s
  pointwise [Read.val_main_v11, Read.val_main_v10, Read.val_main_v9, Read.val_main_v8, Read.val_main_v7, Read.val_main_v6, Read.val_main_v5, Read.val_main_v4, Read.val_main_v3, Read.val_main_v2]

/-- The input projection over the region's product is `Spec.projAt`. -/
theorem proj_eq (c : Dev nD) (r : Fin 6144) (n : Fin 21504) :
    Read.val_main_v11 (F := Ideal) (m ((c.tc : Thread nD τ).loc main_arg1)) (m ((c.tc : Thread nD τ).loc main_arg3))
      (m ((c.tc : Thread nD τ).loc main_arg4)) (Value.reg_main_v1 m c) (ix3 (Spec.batch r) (Spec.place r) n)
    = Spec.projAt (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) r n := by
  refine (proj_apply _ _ _ _ r n).trans ?_
  rw [prod]
  rfl

end Cert.QkRefIdeal.Hand

end
-- ==== Proof.QkRefTail.lean ====
/- The query/key projection's reference: its result array is `Spec.qkAt` of the arguments. -/
module

public import proofs.«01_k».proof.Proof.QkSpec
public import proofs.«01_k».proof.Proof.QkRefValue

@[expose] public section

noncomputable section

namespace Cert.QkRefIdeal.Hand

open Cert.QkRefIdeal Cert.QkRefIdeal.Gen Idealize.ShloMosaic Idealize.ShloMosaic.TcCoe Idealize.SL.Sem
open scoped BigOperators

/-! ## The norm and the rotation, which the reference does to the queries and, written out anew, to the keys -/

/-- The norm over the heads' columns, as the host's operations. -/
def normOf (x : FVec Ideal S4x1536x3072 .f32) (w : FVec Ideal S128 .f32) : FVec Ideal S4x1536x24x128 .f32 :=
  mulf (Host.divf (shapeCast S4x1536x24x128 x shapeCasts_S4x1536x3072_S4x1536x24x128)
    (broadcastInDim S4x1536x24x128 ![0, 1, 2, 3] bcast_S4x1536x24x1_S4x1536x24x128_0_1_2_3
      (Host.sqrt (addf (Host.divf (broadcastInDim S4x1536x24x1 ![0, 1, 2] bcast_S4x1536x24_S4x1536x24x1_0_1_2
          (Host.reduceAdd (mulf (shapeCast S4x1536x24x128 x shapeCasts_S4x1536x3072_S4x1536x24x128) (shapeCast S4x1536x24x128 x shapeCasts_S4x1536x3072_S4x1536x24x128))
            (Read.val_main_cst (F := Ideal) : FVec Ideal S_ .f32) reducesTo_S4x1536x24x128_S4x1536x24_d3 h_S_))
          (broadcastInDim S4x1536x24x1 ![] bcast_S_S4x1536x24x1 (Read.val_main_cst_0 (F := Ideal) : FVec Ideal S_ .f32)))
        (broadcastInDim S4x1536x24x1 ![] bcast_S_S4x1536x24x1 (Read.val_main_cst_1 (F := Ideal) : FVec Ideal S_ .f32))))))
    (broadcastInDim S4x1536x24x128 ![0, 1, 2, 3] bcast_S1x1x1x128_S4x1536x24x128_0_1_2_3 (broadcastInDim S1x1x1x128 ![3] bcast_S128_S1x1x1x128_3 w))

/-- The even lanes of the heads. -/
def evens (y : FVec Ideal S4x1536x24x128 .f32) : FVec Ideal S4x1536x24x64 .f32 :=
  shapeCast S4x1536x24x64 (extractStridedSlice S4x1536x24x64x1 ![0, 0, 0, 0, 0] (shapeCast S4x1536x24x64x2 y shapeCasts_S4x1536x24x128_S4x1536x24x64x2)
    slices_S4x1536x24x64x2_S4x1536x24x64x1_0_0_0_0_0) shapeCasts_S4x1536x24x64x1_S4x1536x24x64
/-- The odd lanes of the heads. -/
def odds (y : FVec Ideal S4x1536x24x128 .f32) : FVec Ideal S4x1536x24x64 .f32 :=
  shapeCast S4x1536x24x64 (extractStridedSlice S4x1536x24x64x1 ![0, 0, 0, 0, 1] (shapeCast S4x1536x24x64x2 y shapeCasts_S4x1536x24x128_S4x1536x24x64x2)
    slices_S4x1536x24x64x2_S4x1536x24x64x1_0_0_0_0_1) shapeCasts_S4x1536x24x64x1_S4x1536x24x64
/-- Cosines or sines, over the heads. -/
def spread (c : FVec Ideal S4x1536x64 .f32) : FVec Ideal S4x1536x24x64 .f32 :=
  broadcastInDim S4x1536x24x64 ![0, 1, 2, 3] bcast_S4x1536x1x64_S4x1536x24x64_0_1_2_3 (broadcastInDim S4x1536x1x64 ![0, 1, 3] bcast_S4x1536x64_S4x1536x1x64_0_1_3 c)

/-- Two arrays, lane by lane in turn. -/
def interleave (e o : FVec Ideal S4x1536x24x64 .f32) : FVec Ideal S4x1536x24x128 .bf16 :=
  truncf .bf16 (shapeCast S4x1536x24x128 (concatenate S4x1536x24x64x2 4
    [⟨S4x1536x24x64x1, broadcastInDim S4x1536x24x64x1 ![0, 1, 2, 3] bcast_S4x1536x24x64_S4x1536x24x64x1_0_1_2_3 e⟩,
     ⟨S4x1536x24x64x1, broadcastInDim S4x1536x24x64x1 ![0, 1, 2, 3] bcast_S4x1536x24x64_S4x1536x24x64x1_0_1_2_3 o⟩]
    concatenates_S4x1536x24x64x1_S4x1536x24x64x1_S4x1536x24x64x2_d4) shapeCasts_S4x1536x24x64x2_S4x1536x24x128) bitsLt_bf16_f32

/-- The rotation of the heads' pairs. -/
def rotOf (y : FVec Ideal S4x1536x24x128 .f32) (c s : FVec Ideal S4x1536x64 .f32) : FVec Ideal S4x1536x24x128 .bf16 :=
  interleave (subf (mulf (spread c) (evens y)) (mulf (spread s) (odds y))) (addf (mulf (spread s) (evens y)) (mulf (spread c) (odds y)))

/-- Lane `l` of head `h`, of the queries or of the keys. -/
def headLane (h : Fin 24) (l : Fin 128) : Fin 3072 := ⟨128 * h.val + l.val, by omega⟩
/-- The even and the odd lane of a pair. -/
def lane0 (p : Fin 64) : Fin 128 := ⟨p.val * 2, by omega⟩
def lane1 (p : Fin 64) : Fin 128 := ⟨p.val * 2 + 1, by omega⟩

theorem heads_apply (x : FVec Ideal S4x1536x3072 .f32) (b : Fin 4) (s : Fin 1536) (h : Fin 24) (l : Fin 128) :
    shapeCast S4x1536x24x128 x shapeCasts_S4x1536x3072_S4x1536x24x128 (ix4 b s h l) = x (ix3 b s (headLane h l)) := by
  refine congrArg x (Shape.reshapeEquiv_eq_of_rowMajor _ ?_)
  rw [Shape.rowMajor_val_three, Shape.rowMajor_val_four]
  show (b.val * 1536 + s.val) * 3072 + (128 * h.val + l.val) = ((b.val * 1536 + s.val) * 24 + h.val) * 128 + l.val
  omega

theorem norm_apply (x : FVec Ideal S4x1536x3072 .f32) (w : FVec Ideal S128 .f32) (b : Fin 4) (s : Fin 1536) (h : Fin 24) (l : Fin 128) :
    normOf x w (ix4 b s h l) = Spec.normed (fun k => x (ix3 b s (headLane h k))) (fun k => w (ix1 k)) l := by
  have e := heads_apply x b s h
  unfold normOf
  generalize shapeCast S4x1536x24x128 x shapeCasts_S4x1536x3072_S4x1536x24x128 = z at e ⊢
  unfold Spec.normed Spec.rms
  simp only [← e]
  pointwise [Read.val_main_cst, Read.val_main_cst_0, Read.val_main_cst_1]

theorem evens_apply (y : FVec Ideal S4x1536x24x128 .f32) (b : Fin 4) (s : Fin 1536) (h : Fin 24) (p : Fin 64) :
    evens y (ix4 b s h p) = y (ix4 b s h (lane0 p)) := by
  unfold evens lane0
  pointwise

theorem odds_apply (y : FVec Ideal S4x1536x24x128 .f32) (b : Fin 4) (s : Fin 1536) (h : Fin 24) (p : Fin 64) :
    odds y (ix4 b s h p) = y (ix4 b s h (lane1 p)) := by
  unfold odds lane1
  pointwise

theorem spread_apply (c : FVec Ideal S4x1536x64 .f32) (b : Fin 4) (s : Fin 1536) (h : Fin 24) (p : Fin 64) :
    spread c (ix4 b s h p) = c (ix3 b s p) := by
  unfold spread
  pointwise

theorem join_apply {α : Type} (x : S4x1536x24x64x2.Idx → α) (b : Fin 4) (s : Fin 1536) (h : Fin 24) (l : Fin 128) :
    shapeCast S4x1536x24x128 x shapeCasts_S4x1536x24x64x2_S4x1536x24x128 (ix4 b s h l) = x (ix5 b s h (Spec.pair l) ⟨l.val % 2, by omega⟩) := by
  refine congrArg x (Shape.reshapeEquiv_eq_of_rowMajor _ ?_)
  rw [Shape.rowMajor_val_five, Shape.rowMajor_val_four]
  show (((b.val * 1536 + s.val) * 24 + h.val) * 64 + l.val / 2) * 2 + l.val % 2 = ((b.val * 1536 + s.val) * 24 + h.val) * 128 + l.val
  omega

set_option maxRecDepth 8192 in
theorem concat_apply (e o : FVec Ideal S4x1536x24x64 .f32) (b : Fin 4) (s : Fin 1536) (h : Fin 24) (p : Fin 64) (q : Fin 2) :
    concatenate S4x1536x24x64x2 4
      [⟨S4x1536x24x64x1, broadcastInDim S4x1536x24x64x1 ![0, 1, 2, 3] bcast_S4x1536x24x64_S4x1536x24x64x1_0_1_2_3 e⟩,
       ⟨S4x1536x24x64x1, broadcastInDim S4x1536x24x64x1 ![0, 1, 2, 3] bcast_S4x1536x24x64_S4x1536x24x64x1_0_1_2_3 o⟩]
      concatenates_S4x1536x24x64x1_S4x1536x24x64x1_S4x1536x24x64x2_d4 (ix5 b s h p q)
    = if q.val = 0 then e (ix4 b s h p) else o (ix4 b s h p) := by
  pointwise
  by_cases h : q.val = 0
  · rw [dif_pos (by omega), if_pos h]
  · rw [dif_neg (by omega), if_neg h]

/-- Over extended reals a narrowing leaves an element as it is. -/
theorem narrow_apply {S : Shape} (x : FVec Ideal S .f32) (i : S.Idx) : truncf .bf16 x bitsLt_bf16_f32 i = x i := rfl

theorem interleave_apply (e o : FVec Ideal S4x1536x24x64 .f32) (b : Fin 4) (s : Fin 1536) (h : Fin 24) (l : Fin 128) :
    interleave e o (ix4 b s h l) = if l.val % 2 = 0 then e (ix4 b s h (Spec.pair l)) else o (ix4 b s h (Spec.pair l)) := by
  unfold interleave
  rw [narrow_apply, join_apply, concat_apply]

/-- A rotated lane. -/
theorem rot_apply (y : FVec Ideal S4x1536x24x128 .f32) (c s : FVec Ideal S4x1536x64 .f32) (b : Fin 4) (q : Fin 1536) (h : Fin 24) (l : Fin 128)
    (v w : Fin 128 → EReal) (hy : ∀ k, y (ix4 b q h k) = Spec.normed v w k) :
    rotOf y c s (ix4 b q h l) = Spec.rotAt v w (fun p => c (ix3 b q p)) (fun p => s (ix3 b q p)) l := by
  unfold rotOf
  rw [interleave_apply]
  have h0 := evens_apply y b q h (Spec.pair l)
  have h1 := odds_apply y b q h (Spec.pair l)
  rw [hy] at h0 h1
  have hc := spread_apply c b q h (Spec.pair l)
  have hs := spread_apply s b q h (Spec.pair l)
  unfold Spec.rotAt
  by_cases e : l.val % 2 = 0
  · rw [if_pos e, if_pos e]
    have e0 : lane0 (Spec.pair l) = l := by apply Fin.ext; show l.val / 2 * 2 = l.val; omega
    have e1 : lane1 (Spec.pair l) = Spec.swap l := by
      apply Fin.ext; unfold Spec.swap; rw [if_pos e]; show l.val / 2 * 2 + 1 = (l.val + 128 - 127) % 128; omega
    rw [e0] at h0
    rw [e1] at h1
    show _ * _ - _ * _ = _
    rw [h0, h1, hc, hs]
  · rw [if_neg e, if_neg e]
    have e0 : lane0 (Spec.pair l) = Spec.swap l := by
      apply Fin.ext; unfold Spec.swap; rw [if_neg e]; show l.val / 2 * 2 = (l.val + 128 - 1) % 128; omega
    have e1 : lane1 (Spec.pair l) = l := by apply Fin.ext; show l.val / 2 * 2 + 1 = l.val; omega
    rw [e0] at h0
    rw [e1] at h1
    show _ * _ + _ * _ = _
    rw [h0, h1, hc, hs]

/-! ## The result -/

section

variable (x1 : (⟨S4x1536, .f32⟩ : BufTy).Contents (Elt Ideal)) (x3 x4 : (⟨S21504, .f32⟩ : BufTy).Contents (Elt Ideal))
  (x5 x6 : (⟨S128, .f32⟩ : BufTy).Contents (Elt Ideal)) (x7 x8 : (⟨S4x1536x64, .f32⟩ : BufTy).Contents (Elt Ideal))
  (r0 : (⟨S6144x21504, .f32⟩ : BufTy).Contents (Elt Ideal))

theorem v28_eq : Read.val_main_v28 x1 x3 x4 x5 r0 = normOf (Read.val_main_v12 x1 x3 x4 r0) x5 := rfl
theorem v63_eq : Read.val_main_v63 x1 x3 x4 x6 r0 = normOf (Read.val_main_v14 x1 x3 x4 r0) x6 := rfl
theorem v50_eq : Read.val_main_v50 x1 x3 x4 x5 x7 x8 r0 = rotOf (normOf (Read.val_main_v12 x1 x3 x4 r0) x5) x7 x8 := by
  rw [← v28_eq]; rfl
theorem v85_eq : Read.val_main_v85 x1 x3 x4 x6 x7 x8 r0 = rotOf (normOf (Read.val_main_v14 x1 x3 x4 r0) x6) x7 x8 := by
  rw [← v63_eq]; rfl

theorem v12_apply (b : Fin 4) (s : Fin 1536) (n : Fin 3072) :
    Read.val_main_v12 x1 x3 x4 r0 (ix3 b s n) = Read.val_main_v11 x1 x3 x4 r0 (ix3 b s ⟨n.val, by omega⟩) := by
  pointwise [Read.val_main_v12]

theorem v14_apply (b : Fin 4) (s : Fin 1536) (n : Fin 3072) :
    Read.val_main_v14 x1 x3 x4 r0 (ix3 b s n) = Read.val_main_v11 x1 x3 x4 r0 (ix3 b s ⟨3072 + n.val, by omega⟩) := by
  pointwise [Read.val_main_v14]

/-- Heads of (4, 1536, 24, 128) flattened to (6144, 3072), read at row `r` and column `n`. -/
theorem flat4_apply (y : FVec Ideal S4x1536x24x128 .bf16) (r : Fin 6144) (n : Fin 3072) :
    shapeCast S6144x3072 y shapeCasts_S4x1536x24x128_S6144x3072 (ix2 r n)
      = y (ix4 (Spec.batch r) (Spec.place r) ⟨n.val / 128, by omega⟩ ⟨n.val % 128, by omega⟩) := by
  refine congrArg y (Shape.reshapeEquiv_eq_of_rowMajor _ ?_)
  rw [Shape.rowMajor_val_two, Shape.rowMajor_val_four]
  show ((r.val / 1536 * 1536 + r.val % 1536) * 24 + n.val / 128) * 128 + n.val % 128 = r.val * 3072 + n.val
  omega

/-- The result of the host operations over any projection `P` of row `r`. -/
theorem tail_apply (r n : Fin 6144) (P : Fin 21504 → EReal)
    (hP : ∀ k, Read.val_main_v11 x1 x3 x4 r0 (ix3 (Spec.batch r) (Spec.place r) k) = P k) :
    Read.val_main_v88 x1 x3 x4 x5 x6 x7 x8 r0 (ix2 r n)
      = Spec.rotAt (fun l => P (Spec.headCol n l)) (fun l => if n.val < 3072 then x5 (ix1 l) else x6 (ix1 l))
          (fun p => x7 (ix3 (Spec.batch r) (Spec.place r) p)) (fun p => x8 (ix3 (Spec.batch r) (Spec.place r) p)) (Spec.lane n) := by
  unfold Read.val_main_v88
  by_cases h : n.val < 3072
  · have e : concatenate S6144x6144 1 [⟨S6144x3072, Read.val_main_v86 x1 x3 x4 x5 x7 x8 r0⟩, ⟨S6144x3072, Read.val_main_v87 x1 x3 x4 x6 x7 x8 r0⟩]
        concatenates_S6144x3072_S6144x3072_S6144x6144_d1 (ix2 r n) = Read.val_main_v86 x1 x3 x4 x5 x7 x8 r0 (ix2 r ⟨n.val, h⟩) := by
      generalize Read.val_main_v86 x1 x3 x4 x5 x7 x8 r0 = A
      generalize Read.val_main_v87 x1 x3 x4 x6 x7 x8 r0 = B
      pointwise
      rw [dif_pos h]
    rw [e]
    unfold Read.val_main_v86
    refine (flat4_apply _ _ _).trans ?_
    rw [v50_eq]
    refine (rot_apply _ _ _ _ _ _ _ (fun l => P (Spec.headCol n l)) (fun l => x5 (ix1 l)) fun k => ?_).trans ?_
    · rw [norm_apply]
      refine congrArg (fun v => Spec.normed v _ k) (funext fun l => ?_)
      rw [v12_apply, hP]
      refine congrArg P (Fin.ext ?_)
      show 128 * (n.val / 128) + l.val = n.val / 128 * 128 + l.val
      omega
    · simp only [if_pos h]
      rfl
  · have e : concatenate S6144x6144 1 [⟨S6144x3072, Read.val_main_v86 x1 x3 x4 x5 x7 x8 r0⟩, ⟨S6144x3072, Read.val_main_v87 x1 x3 x4 x6 x7 x8 r0⟩]
        concatenates_S6144x3072_S6144x3072_S6144x6144_d1 (ix2 r n) = Read.val_main_v87 x1 x3 x4 x6 x7 x8 r0 (ix2 r ⟨n.val - 3072, by omega⟩) := by
      generalize Read.val_main_v86 x1 x3 x4 x5 x7 x8 r0 = A
      generalize Read.val_main_v87 x1 x3 x4 x6 x7 x8 r0 = B
      pointwise
      rw [dif_neg h]
    rw [e]
    unfold Read.val_main_v87
    refine (flat4_apply _ _ _).trans ?_
    rw [v85_eq]
    refine (rot_apply _ _ _ _ _ _ _ (fun l => P (Spec.headCol n l)) (fun l => x6 (ix1 l)) fun k => ?_).trans ?_
    · rw [norm_apply]
      refine congrArg (fun v => Spec.normed v _ k) (funext fun l => ?_)
      rw [v14_apply, hP]
      refine congrArg P (Fin.ext ?_)
      show 3072 + (128 * ((n.val - 3072) / 128) + l.val) = n.val / 128 * 128 + l.val
      omega
    · simp only [if_neg h]
      refine congrArg (Spec.rotAt _ _ _ _) (Fin.ext ?_)
      show (n.val - 3072) % 128 = n.val % 128
      omega

end

/-- The result over the region's product is `Spec.qkAt`. -/
theorem result_apply (m : (ℓ : Loc nD τ sig) → Buf (Elt Ideal) ℓ) (c : Dev nD) (r n : Fin 6144) :
    Read.val_main_v88 (F := Ideal) (m ((c.tc : Thread nD τ).loc main_arg1)) (m ((c.tc : Thread nD τ).loc main_arg3))
      (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (Value.reg_main_v1 m c) (ix2 r n)
    = Spec.qkAt (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) r n :=
  tail_apply _ _ _ _ _ _ _ _ r n _ fun k => proj_eq m c r k

end Cert.QkRefIdeal.Hand

end
-- ==== Proof.QkProof.lean ====
/- The query/key projection: the kernel and its reference end with equal results, as extended reals. -/
module

public import proofs.«01_k».proof.Defs
public import proofs.«01_k».proof.Proof.Gen.QkIdeal.Value
public import proofs.«01_k».proof.Proof.QkValue
public import proofs.«01_k».proof.Proof.QkRefTail

@[expose] public section

noncomputable section

namespace Cert.Proof

open Idealize.ShloMosaic Idealize.SL.Sem Cert.QkRefIdeal

/-- The reference's result depends only on the values of what it reads. -/
theorem result_congr {x1 x1' : (⟨S4x1536, .f32⟩ : BufTy).Contents (Elt Ideal)} {x3 x3' x4 x4' : (⟨S21504, .f32⟩ : BufTy).Contents (Elt Ideal)}
    {x5 x5' x6 x6' : (⟨S128, .f32⟩ : BufTy).Contents (Elt Ideal)} {x7 x7' x8 x8' : (⟨S4x1536x64, .f32⟩ : BufTy).Contents (Elt Ideal)}
    {r r' : (⟨S6144x21504, .f32⟩ : BufTy).Contents (Elt Ideal)} (h1 : x1 = x1') (h3 : x3 = x3') (h4 : x4 = x4') (h5 : x5 = x5') (h6 : x6 = x6')
    (h7 : x7 = x7') (h8 : x8 = x8') (hr : r = r') (i : S6144x6144.Idx) :
    Cert.QkRefIdeal.Read.val_main_v88 x1 x3 x4 x5 x6 x7 x8 r i = Cert.QkRefIdeal.Read.val_main_v88 x1' x3' x4' x5' x6' x7' x8' r' i := by
  subst h1 h3 h4 h5 h6 h7 h8 hr; rfl

/-- `Spec.qkAt` is the common result. -/
theorem qk_algebraic : Cert.algebraic_QkIdeal_QkRefIdeal := by
  intro m g m' g' _ hagree
  refine ⟨fun c => fun i : (⟨2, ![6144, 6144]⟩ : Shape).Idx => Cert.QkIdeal.Hand.resAt m c (i 0) (i 1),
    (θ_run _ _ _).mono (fun _ h c => ⟨(h c).1.trans (Cert.QkIdeal.Hand.final m c), (h c).2⟩) (Cert.QkIdeal.Value.run_blocks m g),
    (θ_run _ _ _).mono (fun _ h c => ⟨(h c).1.trans ?_, (h c).2⟩) (Cert.QkRefIdeal.Value.run m' g')⟩
  funext i
  idx_vars i
  refine (congrFun (Cert.QkRefIdeal.Read.val_main_v88_eq (Cert.QkRefIdeal.Value.exitV m' c)) _).trans ?_
  refine Eq.trans ?_ ((Cert.QkRefIdeal.Hand.result_apply m' c i0 i1).trans ?_)
  · exact result_congr (Cert.QkRefIdeal.Value.exit_main_arg1 m' c) (Cert.QkRefIdeal.Value.exit_main_arg3 m' c) (Cert.QkRefIdeal.Value.exit_main_arg4 m' c) (Cert.QkRefIdeal.Value.exit_main_arg5 m' c) (Cert.QkRefIdeal.Value.exit_main_arg6 m' c) (Cert.QkRefIdeal.Value.exit_main_arg7 m' c) (Cert.QkRefIdeal.Value.exit_main_arg8 m' c) (Cert.QkRefIdeal.Value.exit_main_v1 m' c) _
  obtain ⟨e0, e1, e2, e3, e4, e5, e6, e7, e8⟩ := hagree c
  rw [e0, e1, e2, e3, e4, e5, e6, e7, e8]
  rfl

end Cert.Proof

end
-- ==== Proof.MlpSteps.lean ====
/- The MLP kernel's body at one grid point: what it leaves in each buffer it writes, as a function of what it reads. -/
module

public import proofs.«01_k».proof.Proof.Gen.MlpIdeal.Skeleton
public import proofs.«01_k».proof.Proof.Gen.MlpIdeal.Frame

@[expose] public section

set_option maxRecDepth 16384

noncomputable section

namespace Cert.MlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the point's tile computation stores: eight slabs of 128 columns -/

/-- The values stored in columns 0–127 of the point's tile. -/
def slab0 (x0 : Vec F S768x3072 .fp8e4m3) (x1 : Vec F S768x128 .f32) (x2 : Vec F S3072x1024 .fp8e4m3) (x3 : Vec F S1x1024 .f32) (x4 : Vec F S1x1024 .f32) : FVec F S1x768x128 .f32 :=
  k0_pay20 (View.ld x1 (Rect.unit ![0, 0] S768x128.size inb_S768x128_S768x128_0_0)) (View.ld x0 (Rect.unit ![0, 0] S768x3072.size inb_S768x3072_S768x3072_0_0)) (View.ld x2 (Rect.unit ![0, 0] S3072x256.size inb_S3072x1024_S3072x256_0_0)) (View.ld x3 (Rect.unit ![0, 0] S1x128.size inb_S1x1024_S1x128_0_0)) (View.ld x4 (Rect.unit ![0, 0] S1x128.size inb_S1x1024_S1x128_0_0))

/-- The values stored in columns 128–255 of the point's tile. -/
def slab1 (x0 : Vec F S768x3072 .fp8e4m3) (x1 : Vec F S768x128 .f32) (x2 : Vec F S3072x1024 .fp8e4m3) (x3 : Vec F S1x1024 .f32) (x4 : Vec F S1x1024 .f32) : FVec F S1x768x128 .f32 :=
  k0_pay24 (k0_pay22 (View.ld x1 (Rect.unit ![0, 0] S768x128.size inb_S768x128_S768x128_0_0)) (View.ld x0 (Rect.unit ![0, 0] S768x3072.size inb_S768x3072_S768x3072_0_0)) (View.ld x2 (Rect.unit ![0, 0] S3072x256.size inb_S3072x1024_S3072x256_0_0)) (View.ld x3 (Rect.unit ![0, 128] S1x128.size inb_S1x1024_S1x128_0_128))) (View.ld x4 (Rect.unit ![0, 128] S1x128.size inb_S1x1024_S1x128_0_128))

/-- The values stored in columns 256–383 of the point's tile. -/
def slab2 (x0 : Vec F S768x3072 .fp8e4m3) (x1 : Vec F S768x128 .f32) (x2 : Vec F S3072x1024 .fp8e4m3) (x3 : Vec F S1x1024 .f32) (x4 : Vec F S1x1024 .f32) : FVec F S1x768x128 .f32 :=
  k0_pay30 (k0_pay27 (k0_pay17 (View.ld x1 (Rect.unit ![0, 0] S768x128.size inb_S768x128_S768x128_0_0))) (View.ld x0 (Rect.unit ![0, 0] S768x3072.size inb_S768x3072_S768x3072_0_0)) (View.ld x2 (Rect.unit ![0, 256] S3072x256.size inb_S3072x1024_S3072x256_0_256))) (k0_pay28 (View.ld x3 (Rect.unit ![0, 256] S1x128.size inb_S1x1024_S1x128_0_256))) (View.ld x4 (Rect.unit ![0, 256] S1x128.size inb_S1x1024_S1x128_0_256))

/-- The values stored in columns 384–511 of the point's tile. -/
def slab3 (x0 : Vec F S768x3072 .fp8e4m3) (x1 : Vec F S768x128 .f32) (x2 : Vec F S3072x1024 .fp8e4m3) (x3 : Vec F S1x1024 .f32) (x4 : Vec F S1x1024 .f32) : FVec F S1x768x128 .f32 :=
  k0_pay36 (k0_pay33 (k0_pay17 (View.ld x1 (Rect.unit ![0, 0] S768x128.size inb_S768x128_S768x128_0_0))) (k0_pay26 (View.ld x0 (Rect.unit ![0, 0] S768x3072.size inb_S768x3072_S768x3072_0_0)) (View.ld x2 (Rect.unit ![0, 256] S3072x256.size inb_S3072x1024_S3072x256_0_256))) (View.ld x3 (Rect.unit ![0, 384] S1x128.size inb_S1x1024_S1x128_0_384)) (View.ld x4 (Rect.unit ![0, 384] S1x128.size inb_S1x1024_S1x128_0_384))) (k0_pay34 (k0_pay17 (View.ld x1 (Rect.unit ![0, 0] S768x128.size inb_S768x128_S768x128_0_0))) (k0_pay26 (View.ld x0 (Rect.unit ![0, 0] S768x3072.size inb_S768x3072_S768x3072_0_0)) (View.ld x2 (Rect.unit ![0, 256] S3072x256.size inb_S3072x1024_S3072x256_0_256))) (View.ld x3 (Rect.unit ![0, 384] S1x128.size inb_S1x1024_S1x128_0_384)) (View.ld x4 (Rect.unit ![0, 384] S1x128.size inb_S1x1024_S1x128_0_384)))

/-- The values stored in columns 512–639 of the point's tile. -/
def slab4 (x0 : Vec F S768x3072 .fp8e4m3) (x1 : Vec F S768x128 .f32) (x2 : Vec F S3072x1024 .fp8e4m3) (x3 : Vec F S1x1024 .f32) (x4 : Vec F S1x1024 .f32) : FVec F S1x768x128 .f32 :=
  k0_pay43 (k0_pay40 (k0_pay17 (View.ld x1 (Rect.unit ![0, 0] S768x128.size inb_S768x128_S768x128_0_0))) (View.ld x0 (Rect.unit ![0, 0] S768x3072.size inb_S768x3072_S768x3072_0_0)) (View.ld x2 (Rect.unit ![0, 512] S3072x256.size inb_S3072x1024_S3072x256_0_512)) (View.ld x3 (Rect.unit ![0, 512] S1x128.size inb_S1x1024_S1x128_0_512)) (View.ld x4 (Rect.unit ![0, 512] S1x128.size inb_S1x1024_S1x128_0_512))) (k0_pay41 (k0_pay17 (View.ld x1 (Rect.unit ![0, 0] S768x128.size inb_S768x128_S768x128_0_0))) (View.ld x0 (Rect.unit ![0, 0] S768x3072.size inb_S768x3072_S768x3072_0_0)) (View.ld x2 (Rect.unit ![0, 512] S3072x256.size inb_S3072x1024_S3072x256_0_512)) (View.ld x3 (Rect.unit ![0, 512] S1x128.size inb_S1x1024_S1x128_0_512)) (View.ld x4 (Rect.unit ![0, 512] S1x128.size inb_S1x1024_S1x128_0_512))) (FloatOps.ofBits FTy.f32 1065353216#32)

/-- The values stored in columns 640–767 of the point's tile. -/
def slab5 (x0 : Vec F S768x3072 .fp8e4m3) (x1 : Vec F S768x128 .f32) (x2 : Vec F S3072x1024 .fp8e4m3) (x3 : Vec F S1x1024 .f32) (x4 : Vec F S1x1024 .f32) : FVec F S1x768x128 .f32 :=
  k0_pay45 (k0_pay17 (View.ld x1 (Rect.unit ![0, 0] S768x128.size inb_S768x128_S768x128_0_0))) (k0_pay38 (View.ld x0 (Rect.unit ![0, 0] S768x3072.size inb_S768x3072_S768x3072_0_0)) (View.ld x2 (Rect.unit ![0, 512] S3072x256.size inb_S3072x1024_S3072x256_0_512))) (View.ld x3 (Rect.unit ![0, 640] S1x128.size inb_S1x1024_S1x128_0_640)) (View.ld x4 (Rect.unit ![0, 640] S1x128.size inb_S1x1024_S1x128_0_640))

/-- The values stored in columns 768–895 of the point's tile. -/
def slab6 (x0 : Vec F S768x3072 .fp8e4m3) (x1 : Vec F S768x128 .f32) (x2 : Vec F S3072x1024 .fp8e4m3) (x3 : Vec F S1x1024 .f32) (x4 : Vec F S1x1024 .f32) : FVec F S1x768x128 .f32 :=
  k0_pay49 (k0_pay17 (View.ld x1 (Rect.unit ![0, 0] S768x128.size inb_S768x128_S768x128_0_0))) (View.ld x0 (Rect.unit ![0, 0] S768x3072.size inb_S768x3072_S768x3072_0_0)) (View.ld x2 (Rect.unit ![0, 768] S3072x256.size inb_S3072x1024_S3072x256_0_768)) (View.ld x3 (Rect.unit ![0, 768] S1x128.size inb_S1x1024_S1x128_0_768)) (View.ld x4 (Rect.unit ![0, 768] S1x128.size inb_S1x1024_S1x128_0_768))

/-- The values stored in columns 896–1023 of the point's tile. -/
def slab7 (x0 : Vec F S768x3072 .fp8e4m3) (x1 : Vec F S768x128 .f32) (x2 : Vec F S3072x1024 .fp8e4m3) (x3 : Vec F S1x1024 .f32) (x4 : Vec F S1x1024 .f32) : FVec F S1x768x128 .f32 :=
  k0_pay3 (k0_pay51 (k0_pay17 (View.ld x1 (Rect.unit ![0, 0] S768x128.size inb_S768x128_S768x128_0_0))) (View.ld x0 (Rect.unit ![0, 0] S768x3072.size inb_S768x3072_S768x3072_0_0)) (View.ld x2 (Rect.unit ![0, 768] S3072x256.size inb_S3072x1024_S3072x256_0_768)) (View.ld x3 (Rect.unit ![0, 896] S1x128.size inb_S1x1024_S1x128_0_896))) (View.ld x4 (Rect.unit ![0, 896] S1x128.size inb_S1x1024_S1x128_0_896))

/-- The running row maxima after the first two slabs: started afresh at column block 0. -/
def amax1 (i : grid0.Coords) (x0 : Vec F S768x3072 .fp8e4m3) (x1 : Vec F S768x128 .f32) (x2 : Vec F S3072x1024 .fp8e4m3) (x3 : Vec F S1x1024 .f32) (x4 : Vec F S1x1024 .f32) (xa : Vec F S768x128 .f32) : FVec F S768x128 .f32 :=
  k0_pay25 (BitVec.ofNat 32 (i 1).val) (k0_pay21 (View.ld x1 (Rect.unit ![0, 0] S768x128.size inb_S768x128_S768x128_0_0)) (View.ld x0 (Rect.unit ![0, 0] S768x3072.size inb_S768x3072_S768x3072_0_0)) (View.ld x2 (Rect.unit ![0, 0] S3072x256.size inb_S3072x1024_S3072x256_0_0)) (View.ld x3 (Rect.unit ![0, 0] S1x128.size inb_S1x1024_S1x128_0_0)) (View.ld x4 (Rect.unit ![0, 0] S1x128.size inb_S1x1024_S1x128_0_0))) (k0_pay22 (View.ld x1 (Rect.unit ![0, 0] S768x128.size inb_S768x128_S768x128_0_0)) (View.ld x0 (Rect.unit ![0, 0] S768x3072.size inb_S768x3072_S768x3072_0_0)) (View.ld x2 (Rect.unit ![0, 0] S3072x256.size inb_S3072x1024_S3072x256_0_0)) (View.ld x3 (Rect.unit ![0, 128] S1x128.size inb_S1x1024_S1x128_0_128))) (View.ld x4 (Rect.unit ![0, 128] S1x128.size inb_S1x1024_S1x128_0_128)) (View.ld xa (Rect.unit ![0, 0] S768x128.size inb_S768x128_S768x128_0_0))

/-- … after four slabs, -/
def amax2 (i : grid0.Coords) (x0 : Vec F S768x3072 .fp8e4m3) (x1 : Vec F S768x128 .f32) (x2 : Vec F S3072x1024 .fp8e4m3) (x3 : Vec F S1x1024 .f32) (x4 : Vec F S1x1024 .f32) (xa : Vec F S768x128 .f32) : FVec F S768x128 .f32 :=
  k0_pay37 (k0_pay31 (k0_pay27 (k0_pay17 (View.ld x1 (Rect.unit ![0, 0] S768x128.size inb_S768x128_S768x128_0_0))) (View.ld x0 (Rect.unit ![0, 0] S768x3072.size inb_S768x3072_S768x3072_0_0)) (View.ld x2 (Rect.unit ![0, 256] S3072x256.size inb_S3072x1024_S3072x256_0_256))) (k0_pay28 (View.ld x3 (Rect.unit ![0, 256] S1x128.size inb_S1x1024_S1x128_0_256))) (View.ld x4 (Rect.unit ![0, 256] S1x128.size inb_S1x1024_S1x128_0_256))) (k0_pay33 (k0_pay17 (View.ld x1 (Rect.unit ![0, 0] S768x128.size inb_S768x128_S768x128_0_0))) (k0_pay26 (View.ld x0 (Rect.unit ![0, 0] S768x3072.size inb_S768x3072_S768x3072_0_0)) (View.ld x2 (Rect.unit ![0, 256] S3072x256.size inb_S3072x1024_S3072x256_0_256))) (View.ld x3 (Rect.unit ![0, 384] S1x128.size inb_S1x1024_S1x128_0_384)) (View.ld x4 (Rect.unit ![0, 384] S1x128.size inb_S1x1024_S1x128_0_384))) (k0_pay34 (k0_pay17 (View.ld x1 (Rect.unit ![0, 0] S768x128.size inb_S768x128_S768x128_0_0))) (k0_pay26 (View.ld x0 (Rect.unit ![0, 0] S768x3072.size inb_S768x3072_S768x3072_0_0)) (View.ld x2 (Rect.unit ![0, 256] S3072x256.size inb_S3072x1024_S3072x256_0_256))) (View.ld x3 (Rect.unit ![0, 384] S1x128.size inb_S1x1024_S1x128_0_384)) (View.ld x4 (Rect.unit ![0, 384] S1x128.size inb_S1x1024_S1x128_0_384))) (amax1 i x0 x1 x2 x3 x4 xa)

/-- … after six, -/
def amax3 (i : grid0.Coords) (x0 : Vec F S768x3072 .fp8e4m3) (x1 : Vec F S768x128 .f32) (x2 : Vec F S3072x1024 .fp8e4m3) (x3 : Vec F S1x1024 .f32) (x4 : Vec F S1x1024 .f32) (xa : Vec F S768x128 .f32) : FVec F S768x128 .f32 :=
  k0_pay46 (k0_pay17 (View.ld x1 (Rect.unit ![0, 0] S768x128.size inb_S768x128_S768x128_0_0))) (k0_pay38 (View.ld x0 (Rect.unit ![0, 0] S768x3072.size inb_S768x3072_S768x3072_0_0)) (View.ld x2 (Rect.unit ![0, 512] S3072x256.size inb_S3072x1024_S3072x256_0_512))) (k0_pay40 (k0_pay17 (View.ld x1 (Rect.unit ![0, 0] S768x128.size inb_S768x128_S768x128_0_0))) (View.ld x0 (Rect.unit ![0, 0] S768x3072.size inb_S768x3072_S768x3072_0_0)) (View.ld x2 (Rect.unit ![0, 512] S3072x256.size inb_S3072x1024_S3072x256_0_512)) (View.ld x3 (Rect.unit ![0, 512] S1x128.size inb_S1x1024_S1x128_0_512)) (View.ld x4 (Rect.unit ![0, 512] S1x128.size inb_S1x1024_S1x128_0_512))) (k0_pay41 (k0_pay17 (View.ld x1 (Rect.unit ![0, 0] S768x128.size inb_S768x128_S768x128_0_0))) (View.ld x0 (Rect.unit ![0, 0] S768x3072.size inb_S768x3072_S768x3072_0_0)) (View.ld x2 (Rect.unit ![0, 512] S3072x256.size inb_S3072x1024_S3072x256_0_512)) (View.ld x3 (Rect.unit ![0, 512] S1x128.size inb_S1x1024_S1x128_0_512)) (View.ld x4 (Rect.unit ![0, 512] S1x128.size inb_S1x1024_S1x128_0_512))) (FloatOps.ofBits FTy.f32 1065353216#32) (View.ld x3 (Rect.unit ![0, 640] S1x128.size inb_S1x1024_S1x128_0_640)) (View.ld x4 (Rect.unit ![0, 640] S1x128.size inb_S1x1024_S1x128_0_640)) (amax2 i x0 x1 x2 x3 x4 xa)

/-- … after all eight: what the point leaves. -/
def amaxNew (i : grid0.Coords) (x0 : Vec F S768x3072 .fp8e4m3) (x1 : Vec F S768x128 .f32) (x2 : Vec F S3072x1024 .fp8e4m3) (x3 : Vec F S1x1024 .f32) (x4 : Vec F S1x1024 .f32) (xa : Vec F S768x128 .f32) : FVec F S768x128 .f32 :=
  k0_pay4 (k0_pay50 (k0_pay17 (View.ld x1 (Rect.unit ![0, 0] S768x128.size inb_S768x128_S768x128_0_0))) (View.ld x0 (Rect.unit ![0, 0] S768x3072.size inb_S768x3072_S768x3072_0_0)) (View.ld x2 (Rect.unit ![0, 768] S3072x256.size inb_S3072x1024_S3072x256_0_768)) (View.ld x3 (Rect.unit ![0, 768] S1x128.size inb_S1x1024_S1x128_0_768)) (View.ld x4 (Rect.unit ![0, 768] S1x128.size inb_S1x1024_S1x128_0_768))) (k0_pay51 (k0_pay17 (View.ld x1 (Rect.unit ![0, 0] S768x128.size inb_S768x128_S768x128_0_0))) (View.ld x0 (Rect.unit ![0, 0] S768x3072.size inb_S768x3072_S768x3072_0_0)) (View.ld x2 (Rect.unit ![0, 768] S3072x256.size inb_S3072x1024_S3072x256_0_768)) (View.ld x3 (Rect.unit ![0, 896] S1x128.size inb_S1x1024_S1x128_0_896))) (View.ld x4 (Rect.unit ![0, 896] S1x128.size inb_S1x1024_S1x128_0_896)) (amax3 i x0 x1 x2 x3 x4 xa)

/-- The eight stores into the kept tiles, last first. -/
def gPieces (i : grid0.Coords) (h2 : k0_cond2 i = 1#1) (x0 : Vec F S768x3072 .fp8e4m3) (x1 : Vec F S768x128 .f32) (x2 : Vec F S3072x1024 .fp8e4m3) (x3 : Vec F S1x1024 .f32) (x4 : Vec F S1x1024 .f32) : List (View.Piece (Elt F) S12x768x1024 .f32) :=
  [⟨Rect.unit (k0_off16 i) S1x768x128.size (k0_off16_inb i h2), slab7 x0 x1 x2 x3 x4⟩,
   ⟨Rect.unit (k0_off15 i) S1x768x128.size (k0_off15_inb i h2), slab6 x0 x1 x2 x3 x4⟩,
   ⟨Rect.unit (k0_off14 i) S1x768x128.size (k0_off14_inb i h2), slab5 x0 x1 x2 x3 x4⟩,
   ⟨Rect.unit (k0_off13 i) S1x768x128.size (k0_off13_inb i h2), slab4 x0 x1 x2 x3 x4⟩,
   ⟨Rect.unit (k0_off12 i) S1x768x128.size (k0_off12_inb i h2), slab3 x0 x1 x2 x3 x4⟩,
   ⟨Rect.unit (k0_off11 i) S1x768x128.size (k0_off11_inb i h2), slab2 x0 x1 x2 x3 x4⟩,
   ⟨Rect.unit (k0_off10 i) S1x768x128.size (k0_off10_inb i h2), slab1 x0 x1 x2 x3 x4⟩,
   ⟨Rect.unit (k0_off9 i) S1x768x128.size (k0_off9_inb i h2), slab0 x0 x1 x2 x3 x4⟩]

/-- The eight stores of codes, last first: each of a slab of the kept tile of the previous row block, times its row's reciprocal scale. -/
def codePieces (i : grid0.Coords) (h1 : k0_cond1 i = 1#1) (xg : Vec F S12x768x1024 .f32) (xi : Vec F S768x128 .f32) : List (View.Piece (Elt F) S768x1024 .fp8e4m3) :=
  [⟨Rect.unit ![0, 896] S768x128.size inb_S768x1024_S768x128_0_896, k0_pay1 (View.ld xi (Rect.unit ![0, 0] S768x128.size inb_S768x128_S768x128_0_0)) (View.ld xg (Rect.unit (k0_off8 i) S1x768x128.size (k0_off8_inb i h1)))⟩,
   ⟨Rect.unit ![0, 768] S768x128.size inb_S768x1024_S768x128_0_768, k0_pay16 (View.ld xi (Rect.unit ![0, 0] S768x128.size inb_S768x128_S768x128_0_0)) (View.ld xg (Rect.unit (k0_off7 i) S1x768x128.size (k0_off7_inb i h1)))⟩,
   ⟨Rect.unit ![0, 640] S768x128.size inb_S768x1024_S768x128_0_640, k0_pay15 (View.ld xi (Rect.unit ![0, 0] S768x128.size inb_S768x128_S768x128_0_0)) (View.ld xg (Rect.unit (k0_off6 i) S1x768x128.size (k0_off6_inb i h1)))⟩,
   ⟨Rect.unit ![0, 512] S768x128.size inb_S768x1024_S768x128_0_512, k0_pay14 (View.ld xi (Rect.unit ![0, 0] S768x128.size inb_S768x128_S768x128_0_0)) (View.ld xg (Rect.unit (k0_off5 i) S1x768x128.size (k0_off5_inb i h1)))⟩,
   ⟨Rect.unit ![0, 384] S768x128.size inb_S768x1024_S768x128_0_384, k0_pay13 (k0_pay12 (View.ld xi (Rect.unit ![0, 0] S768x128.size inb_S768x128_S768x128_0_0)) (View.ld xg (Rect.unit (k0_off4 i) S1x768x128.size (k0_off4_inb i h1))))⟩,
   ⟨Rect.unit ![0, 256] S768x128.size inb_S768x1024_S768x128_0_256, k0_pay11 (View.ld xi (Rect.unit ![0, 0] S768x128.size inb_S768x128_S768x128_0_0)) (View.ld xg (Rect.unit (k0_off3 i) S1x768x128.size (k0_off3_inb i h1)))⟩,
   ⟨Rect.unit ![0, 128] S768x128.size inb_S768x1024_S768x128_0_128, k0_pay10 (View.ld xi (Rect.unit ![0, 0] S768x128.size inb_S768x128_S768x128_0_0)) (View.ld xg (Rect.unit (k0_off2 i) S1x768x128.size (k0_off2_inb i h1)))⟩,
   ⟨Rect.unit ![0, 0] S768x128.size inb_S768x1024_S768x128_0_0, k0_pay9 (View.ld xi (Rect.unit ![0, 0] S768x128.size inb_S768x128_S768x128_0_0)) (View.ld xg (Rect.unit (k0_off1 i) S1x768x128.size (k0_off1_inb i h1)))⟩]

theorem codePieces_cover (i : grid0.Coords) (h1 : k0_cond1 i = 1#1) (xg : Vec F S12x768x1024 .f32) (xi : Vec F S768x128 .f32) (y : S768x1024.Idx) :
    ∃ pc ∈ codePieces i h1 xg xi, y ∈ pc.1.set :=
  View.cover_of_tiled (codePieces i h1 xg xi) S768x128.size (by rfl) y

/-- The contents `G'` of the kept tiles are `xg` with the eight stores made. -/
def Kept (i : grid0.Coords) (h2 : k0_cond2 i = 1#1) (x0 : Vec F S768x3072 .fp8e4m3) (x1 : Vec F S768x128 .f32) (x2 : Vec F S3072x1024 .fp8e4m3) (x3 : Vec F S1x1024 .f32) (x4 : Vec F S1x1024 .f32) (xg G' : Vec F S12x768x1024 .f32) : Prop :=
  (∀ y, (∃ pc ∈ gPieces i h2 x0 x1 x2 x3 x4, y ∈ pc.1.set) → G' y = View.canon (gPieces i h2 x0 x1 x2 x3 x4) y)
  ∧ ∀ y, (∀ pc ∈ gPieces i h2 x0 x1 x2 x3 x4, y ∉ pc.1.set) → G' y = xg y

/-- What a point does to the buffers it may write: codes `C'`, the two arrays of scales `R'` and `D'`, the kept tiles `G'`,
    the running maxima `A'` and the reciprocal scales `I'`. -/
structure Step (i : grid0.Coords) (x0 : Vec F S768x3072 .fp8e4m3) (x1 : Vec F S768x128 .f32) (x2 : Vec F S3072x1024 .fp8e4m3) (x3 : Vec F S1x1024 .f32) (x4 : Vec F S1x1024 .f32)
    (xc : Vec F S768x1024 .fp8e4m3) (xr : Vec F S768x128 .f32) (xd : Vec F S1x1x768 .f32) (xg : Vec F S12x768x1024 .f32) (xa xi : Vec F S768x128 .f32)
    (C' : Vec F S768x1024 .fp8e4m3) (R' : Vec F S768x128 .f32) (D' : Vec F S1x1x768 .f32) (G' : Vec F S12x768x1024 .f32) (A' I' : Vec F S768x128 .f32) : Prop where
  codes : ∀ h1 : k0_cond1 i = 1#1, C' = View.canon (codePieces i h1 xg xi)
  codes_idle : ¬ k0_cond1 i = 1#1 → C' = xc
  kept : ∀ h2 : k0_cond2 i = 1#1, Kept i h2 x0 x1 x2 x3 x4 xg G'
  kept_idle : ¬ k0_cond2 i = 1#1 → G' = xg
  amax : k0_cond2 i = 1#1 → A' = amaxNew i x0 x1 x2 x3 x4 xa
  amax_idle : ¬ k0_cond2 i = 1#1 → A' = xa
  inv : k0_cond2 i = 1#1 → k0_cond3 i = 1#1 → I' = k0_pay6 A'
  rep : k0_cond2 i = 1#1 → k0_cond3 i = 1#1 → R' = k0_pay7 A'
  dense : k0_cond2 i = 1#1 → k0_cond3 i = 1#1 → D' = k0_pay8 A'
  scale_idle : ¬ (k0_cond2 i = 1#1 ∧ k0_cond3 i = 1#1) → I' = xi ∧ R' = xr ∧ D' = xd

end Cert.MlpIdeal.Gen

end
-- ==== Proof.MlpState.lean ====
/- The MLP kernel's state from grid point to grid point: the running maxima, the kept tiles and the reciprocal scales, and how one
   point's step (`Step`) carries them on. Point `t` is row block `t / 12` and column block `t % 12`. -/
module

public import proofs.«01_k».proof.Proof.MlpSteps
public import Idealize.ShloMosaic.Lib.Pipeline.Value

@[expose] public section

set_option maxRecDepth 16384

noncomputable section

namespace Cert.MlpIdeal.Gen

open Idealize.ShloMosaic Idealize.ShloMosaic.TcCoe Idealize.SL.Sem

variable {F : FTy → Type} [FloatOps F]

/-! ## The grid point's coordinates and conditions -/

theorem coords_facts : ∀ t : Fin grid0.N, ((grid0.coords t) 0).val = t.val / 12 ∧ ((grid0.coords t) 1).val = t.val % 12
    ∧ (k0_cond1 (grid0.coords t) = 1#1 ↔ 12 ≤ t.val) ∧ (k0_cond2 (grid0.coords t) = 1#1 ↔ t.val < 96)
    ∧ (k0_cond3 (grid0.coords t) = 1#1 ↔ t.val % 12 = 11) := by decide +kernel

theorem idx_toNat : ∀ j : Fin 12, (Scalar.indexCast (BitVec.ofNat 32 j.val) : Index).toNat = j.val := by decide

/-! ## Which elements of the kept tiles a point stores and loads: those of its column block -/

/-- An element of a 128-column store into a tile is in that tile. -/
theorem of_mem_slab (i : grid0.Coords) (off : Fin 3 → ℕ) (inb) (e0 : off 0 = (i 1).val) (y : S12x768x1024.Idx)
    (h : y ∈ (Rect.unit (s := S12x768x1024) off ![1, 768, 128] inb).set) : (y 0).val = (i 1).val := by
  have := (Rect.mem_set_unit.mp h) 0
  have e : (![1, 768, 128] : Fin 3 → ℕ) 0 = 1 := rfl
  omega

/-- Every store of the point is into its column block's tile, -/
theorem gPieces_block (i : grid0.Coords) (h2 : k0_cond2 i = 1#1) (x0 : Vec F S768x3072 .fp8e4m3) (x1 : Vec F S768x128 .f32) (x2 : Vec F S3072x1024 .fp8e4m3) (x3 x4 : Vec F S1x1024 .f32)
    (y : S12x768x1024.Idx) : ∀ pc ∈ gPieces i h2 x0 x1 x2 x3 x4, y ∈ pc.1.set → (y 0).val = (i 1).val := by
  have hj := idx_toNat (i 1)
  unfold gPieces
  simp only [List.forall_mem_cons, List.not_mem_nil, false_implies, implies_true, and_true]
  exact ⟨of_mem_slab i _ _ hj y, of_mem_slab i _ _ hj y, of_mem_slab i _ _ hj y, of_mem_slab i _ _ hj y, of_mem_slab i _ _ hj y,
    of_mem_slab i _ _ hj y, of_mem_slab i _ _ hj y, of_mem_slab i _ _ hj y⟩

/-- An element of the tile is in the 128-column store that starts at column `o`. -/
theorem mem_slab (i : grid0.Coords) (off : Fin 3 → ℕ) (o : ℕ) (inb) (e0 : off 0 = (i 1).val) (e1 : off 1 = 0) (e2 : off 2 = o)
    (y : S12x768x1024.Idx) (h : (y 0).val = (i 1).val) (hl : o ≤ (y 2).val) (hu : (y 2).val < o + 128) :
    y ∈ (Rect.unit (s := S12x768x1024) off ![1, 768, 128] inb).set := by
  refine Rect.mem_set_unit.mpr fun a => ?_
  have h1 : (y 1).val < 768 := (y 1).isLt
  match a with
  | ⟨0, _⟩ => exact ⟨by show off 0 ≤ (y 0).val; omega, by show (y 0).val < off 0 + 1; omega⟩
  | ⟨1, _⟩ => exact ⟨by show off 1 ≤ (y 1).val; omega, by show (y 1).val < off 1 + 768; omega⟩
  | ⟨2, _⟩ => exact ⟨by show off 2 ≤ (y 2).val; omega, by show (y 2).val < off 2 + 128; omega⟩

/-- and every element of that tile is stored. -/
theorem gPieces_cover (i : grid0.Coords) (h2 : k0_cond2 i = 1#1) (x0 : Vec F S768x3072 .fp8e4m3) (x1 : Vec F S768x128 .f32) (x2 : Vec F S3072x1024 .fp8e4m3) (x3 x4 : Vec F S1x1024 .f32)
    (y : S12x768x1024.Idx) (h : (y 0).val = (i 1).val) : ∃ pc ∈ gPieces i h2 x0 x1 x2 x3 x4, y ∈ pc.1.set := by
  have hj := idx_toNat (i 1)
  have hc : (y 2).val < 1024 := (y 2).isLt
  unfold gPieces
  by_cases c1 : (y 2).val < 128
  · refine ⟨_, List.Mem.tail _ (List.Mem.tail _ (List.Mem.tail _ (List.Mem.tail _ (List.Mem.tail _ (List.Mem.tail _ (List.Mem.tail _ (List.Mem.head _))))))), ?_⟩
    exact mem_slab i (k0_off9 i) 0 (k0_off9_inb i h2) hj rfl rfl y h (by omega) (by omega)
  by_cases c2 : (y 2).val < 256
  · refine ⟨_, List.Mem.tail _ (List.Mem.tail _ (List.Mem.tail _ (List.Mem.tail _ (List.Mem.tail _ (List.Mem.tail _ (List.Mem.head _)))))), ?_⟩
    exact mem_slab i (k0_off10 i) 128 (k0_off10_inb i h2) hj rfl rfl y h (by omega) (by omega)
  by_cases c3 : (y 2).val < 384
  · refine ⟨_, List.Mem.tail _ (List.Mem.tail _ (List.Mem.tail _ (List.Mem.tail _ (List.Mem.tail _ (List.Mem.head _))))), ?_⟩
    exact mem_slab i (k0_off11 i) 256 (k0_off11_inb i h2) hj rfl rfl y h (by omega) (by omega)
  by_cases c4 : (y 2).val < 512
  · refine ⟨_, List.Mem.tail _ (List.Mem.tail _ (List.Mem.tail _ (List.Mem.tail _ (List.Mem.head _)))), ?_⟩
    exact mem_slab i (k0_off12 i) 384 (k0_off12_inb i h2) hj rfl rfl y h (by omega) (by omega)
  by_cases c5 : (y 2).val < 640
  · refine ⟨_, List.Mem.tail _ (List.Mem.tail _ (List.Mem.tail _ (List.Mem.head _))), ?_⟩
    exact mem_slab i (k0_off13 i) 512 (k0_off13_inb i h2) hj rfl rfl y h (by omega) (by omega)
  by_cases c6 : (y 2).val < 768
  · refine ⟨_, List.Mem.tail _ (List.Mem.tail _ (List.Mem.head _)), ?_⟩
    exact mem_slab i (k0_off14 i) 640 (k0_off14_inb i h2) hj rfl rfl y h (by omega) (by omega)
  by_cases c7 : (y 2).val < 896
  · refine ⟨_, List.Mem.tail _ (List.Mem.head _), ?_⟩
    exact mem_slab i (k0_off15 i) 768 (k0_off15_inb i h2) hj rfl rfl y h (by omega) (by omega)
  · refine ⟨_, List.Mem.head _, ?_⟩
    exact mem_slab i (k0_off16 i) 896 (k0_off16_inb i h2) hj rfl rfl y h (by omega) (by omega)

/-- A load from the tile of column block `i 1` depends on that tile only. -/
theorem ld_congr (i : grid0.Coords) (off : Fin 3 → ℕ) (inb) (e0 : off 0 = (i 1).val) (G G' : Vec F S12x768x1024 .f32)
    (h : ∀ y : S12x768x1024.Idx, (y 0).val = (i 1).val → G y = G' y) :
    View.ld G (Rect.unit (s := S12x768x1024) off S1x768x128.size inb) = View.ld G' (Rect.unit (s := S12x768x1024) off S1x768x128.size inb) := by
  funext x
  refine h _ ?_
  show off 0 + 1 * (x 0).val = _
  have : (x 0).val < 1 := (x 0).isLt
  omega

/-- The codes a point stores depend on the kept tile of its column block only. -/
theorem codePieces_congr (i : grid0.Coords) (h1 : k0_cond1 i = 1#1) (G G' : Vec F S12x768x1024 .f32) (xi : Vec F S768x128 .f32)
    (h : ∀ y : S12x768x1024.Idx, (y 0).val = (i 1).val → G y = G' y) : codePieces i h1 G xi = codePieces i h1 G' xi := by
  have hj := idx_toNat (i 1)
  unfold codePieces
  rw [ld_congr i (k0_off1 i) (k0_off1_inb i h1) hj G G' h, ld_congr i (k0_off2 i) (k0_off2_inb i h1) hj G G' h,
    ld_congr i (k0_off3 i) (k0_off3_inb i h1) hj G G' h, ld_congr i (k0_off4 i) (k0_off4_inb i h1) hj G G' h,
    ld_congr i (k0_off5 i) (k0_off5_inb i h1) hj G G' h, ld_congr i (k0_off6 i) (k0_off6_inb i h1) hj G G' h,
    ld_congr i (k0_off7 i) (k0_off7_inb i h1) hj G G' h, ld_congr i (k0_off8 i) (k0_off8_inb i h1) hj G G' h]

/-- At column block 0 the running maxima start afresh. -/
theorem amaxNew_start (i : grid0.Coords) (hi : (i 1).val = 0) (x0 : Vec F S768x3072 .fp8e4m3) (x1 : Vec F S768x128 .f32) (x2 : Vec F S3072x1024 .fp8e4m3) (x3 x4 : Vec F S1x1024 .f32)
    (a a' : Vec F S768x128 .f32) : amaxNew i x0 x1 x2 x3 x4 a = amaxNew i x0 x1 x2 x3 x4 a' := by
  unfold amaxNew amax3 amax2 amax1
  rw [hi]
  rfl

/-! ## The state -/

variable (m : (ℓ : Loc nD τ sig) → Buf (Elt F) ℓ)

/-- The running maxima after point `t`, of the maxima before it. -/
def nextA (c : Dev nD) (t : Fin cfg0.N) (a : Vec F S768x128 .f32) : Vec F S768x128 .f32 :=
  amaxNew (grid0.coords t) (iblk m c 0 t) (iblk m c 1 t) (iblk m c 2 t) (iblk m c 3 t) (iblk m c 4 t) a

/-- The running maxima before point `t`. -/
def AA (c : Dev nD) : ℕ → Vec F S768x128 .f32
  | 0 => fun _ => FloatOps.ofBits FTy.f32 0#32
  | t + 1 => if h : t < cfg0.N then nextA m c ⟨t, h⟩ (AA c t) else AA c t

theorem AA_succ (c : Dev nD) (t : Fin cfg0.N) : AA m c (t.val + 1) = nextA m c t (AA m c t.val) := by
  rw [AA, dif_pos t.isLt]

/-- The tile that point `u` keeps (its elements of column block `u % 12`). -/
def tile (c : Dev nD) (u : Fin cfg0.N) (h : u.val < 96) : Vec F S12x768x1024 .f32 :=
  View.canon (gPieces (grid0.coords u) ((coords_facts u).2.2.2.1.mpr h) (iblk m c 0 u) (iblk m c 1 u) (iblk m c 2 u) (iblk m c 3 u) (iblk m c 4 u))

/-- What the scratch buffers hold before point `t`: the last twelve points' tiles, the running maxima within a row block, and from the
    second row block on the reciprocal scales of the previous one. -/
structure Inv (c : Dev nD) (t : ℕ) (G : Vec F S12x768x1024 .f32) (A I : Vec F S768x128 .f32) : Prop where
  kept : ∀ (u : Fin cfg0.N) (h : u.val < 96), u.val < t → t ≤ u.val + 12 → ∀ y : S12x768x1024.Idx, (y 0).val = u.val % 12 → G y = tile m c u h y
  amax : t % 12 ≠ 0 → t < 96 → A = AA m c t
  inv : 12 ≤ t → t < 108 → I = k0_pay6 (AA m c (12 * (t / 12)))

theorem inv_zero (c : Dev nD) (G : Vec F S12x768x1024 .f32) (A I : Vec F S768x128 .f32) : Inv m c 0 G A I :=
  ⟨fun u h h' => absurd h' (Nat.not_lt_zero _), fun h => absurd rfl h, fun h => absurd h (by decide)⟩

/-- The codes of the previous row block that point `t` stores. -/
def codesAt (c : Dev nD) (t : Fin cfg0.N) (h : 12 ≤ t.val) : Vec F S768x1024 .fp8e4m3 :=
  View.canon (codePieces (grid0.coords t) ((coords_facts t).2.2.1.mpr h)
    (tile m c ⟨t.val - 12, by omega⟩ (by have : t.val < 108 := t.isLt; show t.val - 12 < 96; omega)) (k0_pay6 (AA m c (12 * (t.val / 12)))))

/-- The row scales that the window of scales holds after point `t`, from the end of a row block on. -/
def denseAt (c : Dev nD) (t : ℕ) : Vec F S1x1x768 .f32 := k0_pay8 (AA m c (12 * min (t / 12) 7 + 12))

/-- One point's step carries the state on, and leaves the codes and the scales named above. -/
theorem step_inv (c : Dev nD) (t : Fin cfg0.N) (xc : Vec F S768x1024 .fp8e4m3) (xr : Vec F S768x128 .f32) (xd : Vec F S1x1x768 .f32)
    (G : Vec F S12x768x1024 .f32) (A I : Vec F S768x128 .f32) (C' : Vec F S768x1024 .fp8e4m3) (R' : Vec F S768x128 .f32) (D' : Vec F S1x1x768 .f32)
    (G' : Vec F S12x768x1024 .f32) (A' I' : Vec F S768x128 .f32) (hI : Inv m c t.val G A I)
    (hd : 96 ≤ t.val → xd = denseAt m c t.val)
    (hs : Step (grid0.coords t) (iblk m c 0 t) (iblk m c 1 t) (iblk m c 2 t) (iblk m c 3 t) (iblk m c 4 t) xc xr xd G A I C' R' D' G' A' I') :
    Inv m c (t.val + 1) G' A' I' ∧ (∀ h : 12 ≤ t.val, C' = codesAt m c t h)
      ∧ ((t.val % 12 = 11 ∨ 96 ≤ t.val) → D' = denseAt m c t.val) := by
  obtain ⟨-, e1, k1, k2, k3⟩ := coords_facts t
  have ht : t.val < 108 := t.isLt
  -- the running maxima after a point that computes
  have hA : t.val < 96 → A' = AA m c (t.val + 1) := fun h => by
    rw [hs.amax (k2.mpr h), AA_succ]
    by_cases h0 : t.val % 12 = 0
    · exact amaxNew_start _ (e1.trans h0) _ _ _ _ _ _ _
    · rw [hI.amax h0 h]; rfl
  refine ⟨⟨fun u h hu hu' y hy => ?_, fun h h' => hA (by omega), fun h h' => ?_⟩, fun h => ?_, fun h => ?_⟩
  · by_cases hut : u.val = t.val
    · obtain rfl : u = t := Fin.ext hut
      exact (hs.kept (k2.mpr h)).1 y (gPieces_cover _ _ _ _ _ _ _ y (hy.trans e1.symm))
    · have old : G y = tile m c u h y := hI.kept u h (by omega) (by omega) y hy
      by_cases h96 : t.val < 96
      · refine ((hs.kept (k2.mpr h96)).2 y fun pc hpc hm => ?_).trans old
        have := gPieces_block _ _ _ _ _ _ _ y pc hpc hm
        omega
      · rw [hs.kept_idle fun hh => h96 (k2.mp hh)]; exact old
  · by_cases h11 : t.val % 12 = 11
    · rw [hs.inv (k2.mpr (by omega)) (k3.mpr h11), hA (by omega), show 12 * ((t.val + 1) / 12) = t.val + 1 by omega]
    · rw [(hs.scale_idle fun hh => h11 (k3.mp hh.2)).1, hI.inv (by omega) ht, show 12 * ((t.val + 1) / 12) = 12 * (t.val / 12) by omega]
  · rw [hs.codes (k1.mpr h), hI.inv h ht]
    unfold codesAt
    refine congrArg _ (codePieces_congr _ _ _ _ _ fun y hy => ?_)
    exact hI.kept ⟨t.val - 12, lt_of_le_of_lt (Nat.sub_le _ _) t.isLt⟩ (by show t.val - 12 < 96; omega) (by show t.val - 12 < t.val; omega) (by show t.val ≤ t.val - 12 + 12; omega) y
      (by show (y 0).val = (t.val - 12) % 12; omega)
  · by_cases h96 : t.val < 96
    · have h11 : t.val % 12 = 11 := by omega
      rw [hs.dense (k2.mpr h96) (k3.mpr h11), hA h96]
      unfold denseAt
      rw [show 12 * min (t.val / 12) 7 + 12 = t.val + 1 by omega]
    · rw [(hs.scale_idle fun hh => h96 (k2.mp hh.1)).2.2]
      exact hd (by omega)

end Cert.MlpIdeal.Gen

end
-- ==== Proof.MlpBlock.lean ====
/- The MLP projection, one grid point: the tile that a point keeps, the running maxima, the codes and the scales, as formulas. -/
module

public import proofs.«01_k».proof.Proof.MlpState
public import Idealize.ShloMosaic.Lib.Pipeline.Value
public import Idealize.ShloMosaic.Lib.Pointwise

@[expose] public section

set_option maxRecDepth 16384

noncomputable section

namespace Cert.MlpIdeal.Hand

open Cert.MlpIdeal Cert.MlpIdeal.Gen Idealize.ShloMosaic Idealize.ShloMosaic.TcCoe Idealize.SL.Sem
open scoped BigOperators

/-- The GELU's tanh form, of one element of the projection. -/
def geluAt (h : EReal) : EReal :=
  (Ideal.ofBits .f32 0x3F000000#32 * h) * (Ideal.ofBits .f32 0x3F800000#32 + Ideal.tanh (Ideal.ofBits .f32 0x3F4C422A#32 * (h + Ideal.ofBits .f32 0x3D372713#32 * (h * h * h))))

theorem emb_eq_idx {s : Shape} (r : Rect s) (x : r.shape.Idx) : r.emb x = r.toLoadRect.idx x := rfl

/-- Element (row, column) of a point's projection: `p * a * w + bias`, where `p` is the product of codes and `a` the row scale. -/
def hAt (x0 : Vec Ideal S768x3072 .fp8e4m3) (a : Fin 768 → EReal)
    (x2 : Vec Ideal S3072x1024 .fp8e4m3) (x3 x4 : Vec Ideal S1x1024 .f32) (r : Fin 768) (n : Fin 1024) : EReal :=
  (∑ k : Fin 3072, x0 (ix2 r k) * x2 (ix2 k n)) * a r * x3 (ix2 0 n) + x4 (ix2 0 n)

/-- The point's tile: the GELU of its projection. -/
def tileAt (x0 : Vec Ideal S768x3072 .fp8e4m3) (a : Fin 768 → EReal)
    (x2 : Vec Ideal S3072x1024 .fp8e4m3) (x3 x4 : Vec Ideal S1x1024 .f32) (r : Fin 768) (n : Fin 1024) : EReal := geluAt (hAt x0 a x2 x3 x4 r n)

variable (x0 : Vec Ideal S768x3072 .fp8e4m3) (x1 : Vec Ideal S768x128 .f32) (x2 : Vec Ideal S3072x1024 .fp8e4m3)
  (x3 x4 : Vec Ideal S1x1024 .f32) (a : Fin 768 → EReal)

/-! ## The eight slabs -/

theorem slab0_apply (ha : ∀ r l, x1 (ix2 r l) = a r) (z : Fin 1) (r : Fin 768) (l : Fin 128) :
    slab0 x0 x1 x2 x3 x4 (ix3 z r l) = tileAt x0 a x2 x3 x4 r ⟨0 + l.val, by omega⟩ := by
  unfold slab0
  unfold_payloads
  pointwise [tileAt, geluAt, hAt, ha, emb_eq_idx, Nat.zero_add]
  try simp only [← Nat.add_assoc, Nat.reduceAdd]

theorem slab1_apply (ha : ∀ r l, x1 (ix2 r l) = a r) (z : Fin 1) (r : Fin 768) (l : Fin 128) :
    slab1 x0 x1 x2 x3 x4 (ix3 z r l) = tileAt x0 a x2 x3 x4 r ⟨128 + l.val, by omega⟩ := by
  unfold slab1
  unfold_payloads
  pointwise [tileAt, geluAt, hAt, ha, emb_eq_idx, Nat.zero_add]
  try simp only [← Nat.add_assoc, Nat.reduceAdd]

theorem slab2_apply (ha : ∀ r l, x1 (ix2 r l) = a r) (z : Fin 1) (r : Fin 768) (l : Fin 128) :
    slab2 x0 x1 x2 x3 x4 (ix3 z r l) = tileAt x0 a x2 x3 x4 r ⟨256 + l.val, by omega⟩ := by
  unfold slab2
  unfold_payloads
  pointwise [tileAt, geluAt, hAt, ha, emb_eq_idx, Nat.zero_add]
  try simp only [← Nat.add_assoc, Nat.reduceAdd]

theorem slab3_apply (ha : ∀ r l, x1 (ix2 r l) = a r) (z : Fin 1) (r : Fin 768) (l : Fin 128) :
    slab3 x0 x1 x2 x3 x4 (ix3 z r l) = tileAt x0 a x2 x3 x4 r ⟨384 + l.val, by omega⟩ := by
  unfold slab3
  unfold_payloads
  pointwise [tileAt, geluAt, hAt, ha, emb_eq_idx, Nat.zero_add]
  try simp only [← Nat.add_assoc, Nat.reduceAdd]

theorem slab4_apply (ha : ∀ r l, x1 (ix2 r l) = a r) (z : Fin 1) (r : Fin 768) (l : Fin 128) :
    slab4 x0 x1 x2 x3 x4 (ix3 z r l) = tileAt x0 a x2 x3 x4 r ⟨512 + l.val, by omega⟩ := by
  unfold slab4
  unfold_payloads
  pointwise [tileAt, geluAt, hAt, ha, emb_eq_idx, Nat.zero_add]
  try simp only [← Nat.add_assoc, Nat.reduceAdd]

theorem slab5_apply (ha : ∀ r l, x1 (ix2 r l) = a r) (z : Fin 1) (r : Fin 768) (l : Fin 128) :
    slab5 x0 x1 x2 x3 x4 (ix3 z r l) = tileAt x0 a x2 x3 x4 r ⟨640 + l.val, by omega⟩ := by
  unfold slab5
  unfold_payloads
  pointwise [tileAt, geluAt, hAt, ha, emb_eq_idx, Nat.zero_add]
  try simp only [← Nat.add_assoc, Nat.reduceAdd]

theorem slab6_apply (ha : ∀ r l, x1 (ix2 r l) = a r) (z : Fin 1) (r : Fin 768) (l : Fin 128) :
    slab6 x0 x1 x2 x3 x4 (ix3 z r l) = tileAt x0 a x2 x3 x4 r ⟨768 + l.val, by omega⟩ := by
  unfold slab6
  unfold_payloads
  pointwise [tileAt, geluAt, hAt, ha, emb_eq_idx, Nat.zero_add]
  try simp only [← Nat.add_assoc, Nat.reduceAdd]

theorem slab7_apply (ha : ∀ r l, x1 (ix2 r l) = a r) (z : Fin 1) (r : Fin 768) (l : Fin 128) :
    slab7 x0 x1 x2 x3 x4 (ix3 z r l) = tileAt x0 a x2 x3 x4 r ⟨896 + l.val, by omega⟩ := by
  unfold slab7
  unfold_payloads
  pointwise [tileAt, geluAt, hAt, ha, emb_eq_idx, Nat.zero_add]
  try simp only [← Nat.add_assoc, Nat.reduceAdd]

/-! ## The running maxima -/

/-- The magnitude of column `n` of row `r` of the point's tile. -/
def magAt (r : Fin 768) (n : Fin 1024) : EReal := (FloatOps.absf (tileAt x0 a x2 x3 x4 r n : Ideal .f32) : Ideal .f32)

set_option maxHeartbeats 800000 in
theorem amax1_apply (i : grid0.Coords) (xa : Vec Ideal S768x128 .f32) (ha : ∀ r l, x1 (ix2 r l) = a r) (r : Fin 768) (l : Fin 128) :
    (amax1 i x0 x1 x2 x3 x4 xa (ix2 r l) : EReal) = Scalar.select (Scalar.cmpi .eq (BitVec.ofNat 32 (i 1).val) 0#32) (max (magAt x0 x2 x3 x4 a r ⟨0 + l.val, by omega⟩) (magAt x0 x2 x3 x4 a r ⟨128 + l.val, by omega⟩)) (max (xa (ix2 r l)) (max (magAt x0 x2 x3 x4 a r ⟨0 + l.val, by omega⟩) (magAt x0 x2 x3 x4 a r ⟨128 + l.val, by omega⟩))) := by
  unfold amax1
  unfold_payloads
  pointwise [magAt, tileAt, geluAt, hAt, ha, emb_eq_idx, Nat.zero_add]
  try simp only [← Nat.add_assoc, Nat.reduceAdd]

set_option maxHeartbeats 800000 in
theorem amax2_apply (i : grid0.Coords) (xa : Vec Ideal S768x128 .f32) (ha : ∀ r l, x1 (ix2 r l) = a r) (r : Fin 768) (l : Fin 128) :
    (amax2 i x0 x1 x2 x3 x4 xa (ix2 r l) : EReal) = max (amax1 i x0 x1 x2 x3 x4 xa (ix2 r l)) (max (magAt x0 x2 x3 x4 a r ⟨256 + l.val, by omega⟩) (magAt x0 x2 x3 x4 a r ⟨384 + l.val, by omega⟩)) := by
  unfold amax2
  unfold_payloads
  pointwise [magAt, tileAt, geluAt, hAt, ha, emb_eq_idx, Nat.zero_add]
  try simp only [← Nat.add_assoc, Nat.reduceAdd]

set_option maxHeartbeats 800000 in
theorem amax3_apply (i : grid0.Coords) (xa : Vec Ideal S768x128 .f32) (ha : ∀ r l, x1 (ix2 r l) = a r) (r : Fin 768) (l : Fin 128) :
    (amax3 i x0 x1 x2 x3 x4 xa (ix2 r l) : EReal) = max (amax2 i x0 x1 x2 x3 x4 xa (ix2 r l)) (max (magAt x0 x2 x3 x4 a r ⟨512 + l.val, by omega⟩) (magAt x0 x2 x3 x4 a r ⟨640 + l.val, by omega⟩)) := by
  unfold amax3
  unfold_payloads
  pointwise [magAt, tileAt, geluAt, hAt, ha, emb_eq_idx, Nat.zero_add]
  try simp only [← Nat.add_assoc, Nat.reduceAdd]

set_option maxHeartbeats 800000 in
theorem amaxNew_apply (i : grid0.Coords) (xa : Vec Ideal S768x128 .f32) (ha : ∀ r l, x1 (ix2 r l) = a r) (r : Fin 768) (l : Fin 128) :
    (amaxNew i x0 x1 x2 x3 x4 xa (ix2 r l) : EReal) = max (amax3 i x0 x1 x2 x3 x4 xa (ix2 r l)) (max (magAt x0 x2 x3 x4 a r ⟨768 + l.val, by omega⟩) (magAt x0 x2 x3 x4 a r ⟨896 + l.val, by omega⟩)) := by
  unfold amaxNew
  unfold_payloads
  pointwise [magAt, tileAt, geluAt, hAt, ha, emb_eq_idx, Nat.zero_add]
  try simp only [← Nat.add_assoc, Nat.reduceAdd]

end Cert.MlpIdeal.Hand

end
-- ==== Proof.MlpTile.lean ====
/- The MLP projection, one grid point: the kept tile, the codes, the scales and the bounds on the running maxima. -/
module

public import proofs.«01_k».proof.Proof.MlpBlock
public import Idealize.ShloMosaic.Lib.Pipeline.Value
public import Idealize.ShloMosaic.Lib.Pointwise

@[expose] public section

set_option maxRecDepth 16384

noncomputable section

namespace Cert.MlpIdeal.Hand

open Cert.MlpIdeal Cert.MlpIdeal.Gen Idealize.ShloMosaic Idealize.ShloMosaic.TcCoe Idealize.SL.Sem
open scoped BigOperators

variable (x0 : Vec Ideal S768x3072 .fp8e4m3) (x1 : Vec Ideal S768x128 .f32) (x2 : Vec Ideal S3072x1024 .fp8e4m3)
  (x3 x4 : Vec Ideal S1x1024 .f32) (a : Fin 768 → EReal)

/-! ## The kept tile -/

/-- The tile as contents of the scratch buffer, the same in every column block. -/
def tileFn : Vec Ideal S12x768x1024 .f32 := fun y => tileAt x0 a x2 x3 x4 (y 1) (y 2)

/-- One slab's store meets the tile. -/
theorem slab_piece (off : Fin 3 → ℕ) (inb) (o : ℕ) (ho : o + 128 ≤ 1024) (e1 : off 1 = 0) (e2 : off 2 = o) (s : FVec Ideal S1x768x128 .f32)
    (hs : ∀ z r (l : Fin 128), s (ix3 z r l) = tileAt x0 a x2 x3 x4 r ⟨o + l.val, by omega⟩) (w : S1x768x128.Idx) :
    s w = tileFn x0 x2 x3 x4 a ((Rect.unit (s := S12x768x1024) off S1x768x128.size inb).emb w) := by
  idx_vars w
  rw [hs]
  unfold tileFn
  refine congrArg₂ (tileAt x0 a x2 x3 x4) (Fin.ext ?_) (Fin.ext ?_)
  · show w1.val = off 1 + 1 * w1.val; omega
  · show o + w2.val = off 2 + 1 * w2.val; omega

/-- The kept tile, read at an element of the point's column block. -/
theorem gCanon_apply (i : grid0.Coords) (h2 : k0_cond2 i = 1#1) (ha : ∀ r l, x1 (ix2 r l) = a r) (y : S12x768x1024.Idx) (hy : (y 0).val = (i 1).val) :
    View.canon (gPieces i h2 x0 x1 x2 x3 x4) y = tileAt x0 a x2 x3 x4 (y 1) (y 2) := by
  have hp : ∀ pc ∈ gPieces i h2 x0 x1 x2 x3 x4, ∀ x, pc.2 x = tileFn x0 x2 x3 x4 a (pc.1.emb x) := by
    unfold gPieces
    simp only [List.forall_mem_cons, List.not_mem_nil, false_implies, implies_true, and_true]
    exact ⟨slab_piece _ _ _ _ _ _ _ 896 (by omega) rfl rfl _ (slab7_apply x0 x1 x2 x3 x4 a ha),
      slab_piece _ _ _ _ _ _ _ 768 (by omega) rfl rfl _ (slab6_apply x0 x1 x2 x3 x4 a ha),
      slab_piece _ _ _ _ _ _ _ 640 (by omega) rfl rfl _ (slab5_apply x0 x1 x2 x3 x4 a ha),
      slab_piece _ _ _ _ _ _ _ 512 (by omega) rfl rfl _ (slab4_apply x0 x1 x2 x3 x4 a ha),
      slab_piece _ _ _ _ _ _ _ 384 (by omega) rfl rfl _ (slab3_apply x0 x1 x2 x3 x4 a ha),
      slab_piece _ _ _ _ _ _ _ 256 (by omega) rfl rfl _ (slab2_apply x0 x1 x2 x3 x4 a ha),
      slab_piece _ _ _ _ _ _ _ 128 (by omega) rfl rfl _ (slab1_apply x0 x1 x2 x3 x4 a ha),
      slab_piece _ _ _ _ _ _ _ 0 (by omega) rfl rfl _ (slab0_apply x0 x1 x2 x3 x4 a ha)⟩
  exact View.canon_apply_of_pieces (tileFn x0 x2 x3 x4 a) (gPieces i h2 x0 x1 x2 x3 x4) hp y (gPieces_cover i h2 x0 x1 x2 x3 x4 y hy)

/-! ## The codes -/

/-- A value clipped to what a code holds. -/
def clipAt (v : EReal) : EReal := min (Ideal.ofBits .f32 0x43E00000#32) (max (Ideal.ofBits .f32 0xC3E00000#32) v)

/-- The codes of a block: each kept value times its row's reciprocal scale, clipped. -/
def codeFn (g : Fin 768 → Fin 1024 → EReal) (b : Fin 768 → EReal) : Vec Ideal S768x1024 .fp8e4m3 := fun y => clipAt (g (y 0) (y 1) * b (y 0))

section
variable (xi : Vec Ideal S768x128 .f32) (g : Vec Ideal S1x768x128 .f32) (r : Fin 768) (l : Fin 128)
theorem pay1_apply : (k0_pay1 xi g (ix2 r l) : EReal) = clipAt (g (ix3 0 r l) * xi (ix2 r l)) := by
  unfold_payloads
  pointwise [clipAt]
theorem pay16_apply : (k0_pay16 xi g (ix2 r l) : EReal) = clipAt (g (ix3 0 r l) * xi (ix2 r l)) := by
  unfold_payloads
  pointwise [clipAt]
theorem pay15_apply : (k0_pay15 xi g (ix2 r l) : EReal) = clipAt (g (ix3 0 r l) * xi (ix2 r l)) := by
  unfold_payloads
  pointwise [clipAt]
theorem pay14_apply : (k0_pay14 xi g (ix2 r l) : EReal) = clipAt (g (ix3 0 r l) * xi (ix2 r l)) := by
  unfold_payloads
  pointwise [clipAt]
theorem pay13_apply : (k0_pay13 (k0_pay12 xi g) (ix2 r l) : EReal) = clipAt (g (ix3 0 r l) * xi (ix2 r l)) := by
  unfold_payloads
  pointwise [clipAt]
theorem pay11_apply : (k0_pay11 xi g (ix2 r l) : EReal) = clipAt (g (ix3 0 r l) * xi (ix2 r l)) := by
  unfold_payloads
  pointwise [clipAt]
theorem pay10_apply : (k0_pay10 xi g (ix2 r l) : EReal) = clipAt (g (ix3 0 r l) * xi (ix2 r l)) := by
  unfold_payloads
  pointwise [clipAt]
theorem pay9_apply : (k0_pay9 xi g (ix2 r l) : EReal) = clipAt (g (ix3 0 r l) * xi (ix2 r l)) := by
  unfold_payloads
  pointwise [clipAt]
end

/-- One store of codes meets the block's codes. -/
theorem code_piece (i : grid0.Coords) (G : Vec Ideal S12x768x1024 .f32) (xi : Vec Ideal S768x128 .f32) (g : Fin 768 → Fin 1024 → EReal) (b : Fin 768 → EReal)
    (hG : ∀ y : S12x768x1024.Idx, (y 0).val = (i 1).val → G y = g (y 1) (y 2)) (hb : ∀ r l, xi (ix2 r l) = b r)
    (off : Fin 3 → ℕ) (inb) (o : ℕ) (ho : o + 128 ≤ 1024) (inb' : ∀ k, (![0, o] : Fin 2 → ℕ) k + S768x128.size k ≤ S768x1024.size k) (inb'') (e0 : off 0 = (i 1).val) (e1 : off 1 = 0) (e2 : off 2 = o) (s : FVec Ideal S768x128 .fp8e4m3)
    (hs : ∀ r l, s (ix2 r l) = clipAt ((View.ld G (Rect.unit (s := S12x768x1024) off S1x768x128.size inb) : Vec Ideal S1x768x128 .f32) (ix3 0 r l)
      * (View.ld xi (Rect.unit (s := S768x128) ![0, 0] S768x128.size inb'') : Vec Ideal S768x128 .f32) (ix2 r l))) (x : S768x128.Idx) :
    s x = codeFn g b ((Rect.unit (s := S768x1024) ![0, o] S768x128.size inb').emb x) := by
  idx_vars x
  rw [hs]
  unfold codeFn
  refine congrArg clipAt (congrArg₂ (fun p q : EReal => p * q) ?_ ?_)
  · refine (hG _ ?_).trans (congrArg₂ g (Fin.ext ?_) (Fin.ext ?_))
    · show off 0 + 1 * 0 = _; omega
    · show off 1 + 1 * x0.val = 0 + 1 * x0.val; omega
    · show off 2 + 1 * x1.val = o + 1 * x1.val; omega
  · refine Eq.trans ?_ ((hb x0 x1).trans (congrArg b (Fin.ext ?_)))
    · refine congrArg xi (funext fun k => Fin.ext ?_)
      match k with
      | ⟨0, _⟩ => show 0 + 1 * x0.val = x0.val; omega
      | ⟨1, _⟩ => show 0 + 1 * x1.val = x1.val; omega
    · show x0.val = 0 + 1 * x0.val; omega

/-- The codes that a point stores. -/
theorem codeCanon_apply (i : grid0.Coords) (h1 : k0_cond1 i = 1#1) (G : Vec Ideal S12x768x1024 .f32) (xi : Vec Ideal S768x128 .f32) (g : Fin 768 → Fin 1024 → EReal) (b : Fin 768 → EReal)
    (hG : ∀ y : S12x768x1024.Idx, (y 0).val = (i 1).val → G y = g (y 1) (y 2)) (hb : ∀ r l, xi (ix2 r l) = b r) (y : S768x1024.Idx) :
    View.canon (codePieces i h1 G xi) y = clipAt (g (y 0) (y 1) * b (y 0)) := by
  have hj := idx_toNat (i 1)
  have hp : ∀ pc ∈ codePieces i h1 G xi, ∀ x, pc.2 x = codeFn g b (pc.1.emb x) := by
    unfold codePieces
    simp only [List.forall_mem_cons, List.not_mem_nil, false_implies, implies_true, and_true]
    exact ⟨code_piece i G xi g b hG hb (k0_off8 i) (k0_off8_inb i h1) 896 (by omega) _ _ hj rfl rfl _ (fun r l => pay1_apply _ _ r l),
      code_piece i G xi g b hG hb (k0_off7 i) (k0_off7_inb i h1) 768 (by omega) _ _ hj rfl rfl _ (fun r l => pay16_apply _ _ r l),
      code_piece i G xi g b hG hb (k0_off6 i) (k0_off6_inb i h1) 640 (by omega) _ _ hj rfl rfl _ (fun r l => pay15_apply _ _ r l),
      code_piece i G xi g b hG hb (k0_off5 i) (k0_off5_inb i h1) 512 (by omega) _ _ hj rfl rfl _ (fun r l => pay14_apply _ _ r l),
      code_piece i G xi g b hG hb (k0_off4 i) (k0_off4_inb i h1) 384 (by omega) _ _ hj rfl rfl _ (fun r l => pay13_apply _ _ r l),
      code_piece i G xi g b hG hb (k0_off3 i) (k0_off3_inb i h1) 256 (by omega) _ _ hj rfl rfl _ (fun r l => pay11_apply _ _ r l),
      code_piece i G xi g b hG hb (k0_off2 i) (k0_off2_inb i h1) 128 (by omega) _ _ hj rfl rfl _ (fun r l => pay10_apply _ _ r l),
      code_piece i G xi g b hG hb (k0_off1 i) (k0_off1_inb i h1) 0 (by omega) _ _ hj rfl rfl _ (fun r l => pay9_apply _ _ r l)⟩
  exact View.canon_apply_of_pieces (codeFn g b) (codePieces i h1 G xi) hp y (codePieces_cover i h1 G xi y)

/-! ## The scales -/

/-- A row's scale, of its largest magnitude. -/
def scaleAt (M : EReal) : EReal := if M = 0 then 1 else Ideal.div M (Ideal.ofBits .f32 0x43E00000#32)

/-- The largest of a row's lanes. -/
def laneMax (A : Vec Ideal S768x128 .f32) (r : Fin 768) : EReal := Finset.univ.fold max (Ideal.ofBits .f32 0xFF800000#32) fun l : Fin 128 => A (ix2 r l)

theorem pay5_apply (A : Vec Ideal S768x128 .f32) (r : Fin 768) (z : Fin 1) : (k0_pay5 A (ix2 r z) : EReal) = scaleAt (laneMax A r) := by
  unfold_payloads
  pointwise [scaleAt, laneMax]

theorem pay6_apply (A : Vec Ideal S768x128 .f32) (r : Fin 768) (l : Fin 128) : (k0_pay6 A (ix2 r l) : EReal) = Ideal.div 1 (scaleAt (laneMax A r)) := by
  unfold k0_pay6
  pointwise
  rw [pay5_apply]

theorem pay8_apply (A : Vec Ideal S768x128 .f32) (z z' : Fin 1) (r : Fin 768) : (k0_pay8 A (ix3 z z' r) : EReal) = scaleAt (laneMax A r) := by
  unfold k0_pay8 k0_pay7
  pointwise
  rw [pay5_apply]

/-- The constant 448 is no zero and finite, so that a row's scale is not zero -/
theorem e448 : Ideal.ofBits .f32 0x43E00000#32 = ((448 : ℝ) : EReal) := by
  simp [Ideal.ofBits, Ideal.ieee, -EReal.coe_mul]
  norm_num

theorem scaleAt_ne_zero (M : EReal) : scaleAt M ≠ 0 := by
  unfold scaleAt
  split
  · exact one_ne_zero
  · rename_i h
    rw [e448, Ideal.div_coe (by norm_num)]
    intro h0
    rcases mul_eq_zero.mp h0 with h1 | h1
    · exact h h1
    · exact absurd h1 (by exact_mod_cast (by norm_num : (1 / 448 : ℝ) ≠ 0))

/-- and multiplying by its reciprocal is dividing by it. -/
theorem mul_recip (v M : EReal) : v * Ideal.div 1 (scaleAt M) = Ideal.div v (scaleAt M) := by
  unfold Ideal.div
  rw [if_neg (scaleAt_ne_zero M), if_neg (scaleAt_ne_zero M), one_mul]

/-! ## Bounds on the running maxima -/

theorem select_one {α : Type} (p q : α) : Scalar.select 1#1 p q = p := rfl
theorem select_zero {α : Type} (p q : α) : Scalar.select 0#1 p q = q := rfl

/-- A number bounds a row's running maxima after a point iff it bounds them before (after column block 0) and the point's magnitudes. -/
theorem amaxNew_le (i : grid0.Coords) (xa : Vec Ideal S768x128 .f32) (ha : ∀ r l, x1 (ix2 r l) = a r) (r : Fin 768) (b : EReal) :
    (∀ l, (amaxNew i x0 x1 x2 x3 x4 xa (ix2 r l) : EReal) ≤ b) ↔ ((i 1).val ≠ 0 → ∀ l, (xa (ix2 r l) : EReal) ≤ b) ∧ ∀ n, magAt x0 x2 x3 x4 a r n ≤ b := by
  have hc : ∀ j : Fin 12, Scalar.cmpi .eq (BitVec.ofNat 32 j.val) 0#32 = if j.val = 0 then 1#1 else 0#1 := by decide
  have key : ∀ l, (amaxNew i x0 x1 x2 x3 x4 xa (ix2 r l) : EReal) ≤ b ↔ ((i 1).val ≠ 0 → (xa (ix2 r l) : EReal) ≤ b)
      ∧ ∀ q : Fin 8, magAt x0 x2 x3 x4 a r ⟨128 * q.val + l.val, by omega⟩ ≤ b := by
    intro l
    rw [amaxNew_apply x0 x1 x2 x3 x4 a i xa ha, amax3_apply x0 x1 x2 x3 x4 a i xa ha, amax2_apply x0 x1 x2 x3 x4 a i xa ha, amax1_apply x0 x1 x2 x3 x4 a i xa ha]
    have hq : (∀ q : Fin 8, magAt x0 x2 x3 x4 a r ⟨128 * q.val + l.val, by omega⟩ ≤ b) ↔ magAt x0 x2 x3 x4 a r ⟨0 + l.val, by omega⟩ ≤ b ∧ magAt x0 x2 x3 x4 a r ⟨128 + l.val, by omega⟩ ≤ b
        ∧ magAt x0 x2 x3 x4 a r ⟨256 + l.val, by omega⟩ ≤ b ∧ magAt x0 x2 x3 x4 a r ⟨384 + l.val, by omega⟩ ≤ b ∧ magAt x0 x2 x3 x4 a r ⟨512 + l.val, by omega⟩ ≤ b
        ∧ magAt x0 x2 x3 x4 a r ⟨640 + l.val, by omega⟩ ≤ b ∧ magAt x0 x2 x3 x4 a r ⟨768 + l.val, by omega⟩ ≤ b ∧ magAt x0 x2 x3 x4 a r ⟨896 + l.val, by omega⟩ ≤ b :=
      ⟨fun h => ⟨h 0, h 1, h 2, h 3, h 4, h 5, h 6, h 7⟩, fun ⟨h0, h1, h2, h3, h4, h5, h6, h7⟩ q => match q with
        | 0 => h0 | 1 => h1 | 2 => h2 | 3 => h3 | 4 => h4 | 5 => h5 | 6 => h6 | 7 => h7⟩
    rw [hq]
    by_cases h0 : (i 1).val = 0
    · rw [(hc (i 1)).trans (if_pos h0), select_one]
      simp only [max_le_iff]
      tauto
    · rw [(hc (i 1)).trans (if_neg h0), select_zero]
      simp only [max_le_iff]
      tauto
  constructor
  · intro h
    refine ⟨fun h0 l => ((key l).mp (h l)).1 h0, fun n => ?_⟩
    have := ((key ⟨n.val % 128, by omega⟩).mp (h _)).2 ⟨n.val / 128, by omega⟩
    rwa [show (⟨128 * (n.val / 128) + n.val % 128, by omega⟩ : Fin 1024) = n from Fin.ext (by show 128 * (n.val / 128) + n.val % 128 = n.val; omega)] at this
  · rintro ⟨h, h'⟩ l
    exact (key l).mpr ⟨fun h0 => h h0 l, fun q => h' _⟩

end Cert.MlpIdeal.Hand

end
-- ==== Proof.MlpSpec.lean ====
/- The codes and the row scales of the MLP as formulas of the arguments: both programs are shown to compute them. -/
module

public import proofs.«01_k».proof.Proof.MlpTile
public import proofs.«01_k».proof.Proof.ProjSpec

@[expose] public section

noncomputable section

namespace Cert.Spec

open Idealize.ShloMosaic Cert.MlpIdeal.Hand
open scoped BigOperators

variable (xc : (⟨3, ![4, 1536, 3072]⟩ : Shape).Idx → EReal) (xs : (⟨2, ![4, 1536]⟩ : Shape).Idx → EReal)
  (w1 : (⟨2, ![3072, 21504]⟩ : Shape).Idx → EReal) (ws b : (⟨1, ![21504]⟩ : Shape).Idx → EReal)

/-- Column `n` of the MLP, as a column of `w1`. -/
def mlpCol (n : Fin 12288) : Fin 21504 := ⟨9216 + n.val, by omega⟩

/-- The activation at row `r` and column `n`: the GELU of the input projection. -/
def mlpAt (r : Fin 6144) (n : Fin 12288) : EReal := geluAt (projAt xc xs w1 ws b r (mlpCol n))

/-- Its magnitude. -/
def mlpMag (r : Fin 6144) (n : Fin 12288) : EReal := (FloatOps.absf (mlpAt xc xs w1 ws b r n : Ideal .f32) : Ideal .f32)

/-- The largest magnitude of a row. -/
def mlpMax (r : Fin 6144) : EReal := Finset.univ.fold max (Ideal.ofBits .f32 0xFF800000#32) (mlpMag xc xs w1 ws b r)

/-- The row's scale. -/
def mlpScale (r : Fin 6144) : EReal := scaleAt (mlpMax xc xs w1 ws b r)

/-- The code at row `r` and column `n`. -/
def mlpCode (r : Fin 6144) (n : Fin 12288) : EReal := clipAt (Ideal.div (mlpAt xc xs w1 ws b r n) (mlpScale xc xs w1 ws b r))

/-- The largest magnitude is below a bound when every magnitude of the row is. -/
theorem mlpMax_le (r : Fin 6144) (B : EReal) : mlpMax xc xs w1 ws b r ≤ B ↔ ∀ n, mlpMag xc xs w1 ws b r n ≤ B := by
  have hbot : Ideal.ofBits .f32 0xFF800000#32 = ⊥ := by simp [Ideal.ofBits, Ideal.ieee]
  unfold mlpMax
  rw [Finset.fold_max_le, hbot]
  exact ⟨fun h n => h.2 n (Finset.mem_univ n), fun h => ⟨bot_le, fun n _ => h n⟩⟩

end Cert.Spec

end
-- ==== Proof.MlpBody.lean ====
/- The MLP kernel's body runs, at every grid point, and does to memory what `Step` says. -/
module

public import proofs.«01_k».proof.Proof.MlpSteps
public import Idealize.ShloMosaic.Lib.VecWindow

@[expose] public section

set_option maxRecDepth 16384

noncomputable section

namespace Cert.MlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at any point, whichever of its three conditions hold. -/
theorem sound_kernel (c : Dev nD) (E : Set ℕ) (i : grid0.Coords) (arg2 : Memref sig .tc .vmem S768x3072 .fp8e4m3) (harg2 : arg2.IsWhole) (arg3 : Memref sig .tc .vmem S768x128 .f32) (harg3 : arg3.IsWhole) (arg4 : Memref sig .tc .vmem S3072x1024 .fp8e4m3) (harg4 : arg4.IsWhole) (arg5 : Memref sig .tc .vmem S1x1024 .f32) (harg5 : arg5.IsWhole) (arg6 : Memref sig .tc .vmem S1x1024 .f32) (harg6 : arg6.IsWhole) (arg7 : Memref sig .tc .vmem S768x1024 .fp8e4m3) (harg7 : arg7.IsWhole) (arg8 : Memref sig .tc .vmem S768x128 .f32) (harg8 : arg8.IsWhole) (arg9 : Memref sig .tc .vmem S1x1x768 .f32) (harg9 : arg9.IsWhole) (arg10 : Memref sig .tc .vmem S12x768x1024 .f32) (harg10 : arg10.IsWhole) (arg11 : Memref sig .tc .vmem S768x128 .f32) (harg11 : arg11.IsWhole) (arg12 : Memref sig .tc .vmem S768x128 .f32) (harg12 : arg12.IsWhole)
    (x0 : Vec F S768x3072 .fp8e4m3) (x1 : Vec F S768x128 .f32) (x2 : Vec F S3072x1024 .fp8e4m3) (x3 : Vec F S1x1024 .f32) (x4 : Vec F S1x1024 .f32)
    (xc : Vec F S768x1024 .fp8e4m3) (xr : Vec F S768x128 .f32) (xd : Vec F S1x1x768 .f32) (xg : Vec F S12x768x1024 .f32) (xa : Vec F S768x128 .f32) (xi : Vec F S768x128 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xc ∗ owns (c : Thread nD τ) arg8 fullShare xr ∗ owns (c : Thread nD τ) arg9 fullShare xd ∗ owns (c : Thread nD τ) arg10 fullShare xg ∗ owns (c : Thread nD τ) arg11 fullShare xa ∗ owns (c : Thread nD τ) arg12 fullShare xi
        ∗ (iprop(∃ C' R' D' G' A' I', ⌜Step i x0 x1 x2 x3 x4 xc xr xd xg xa xi C' R' D' G' A' I'⌝ ∗ owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare C' ∗ owns (c : Thread nD τ) arg8 fullShare R' ∗ owns (c : Thread nD τ) arg9 fullShare D' ∗ owns (c : Thread nD τ) arg10 fullShare G' ∗ owns (c : Thread nD τ) arg11 fullShare A' ∗ owns (c : Thread nD τ) arg12 fullShare I') -∗ K ⟨⟩))
      ⊢ wp frame (wpE (defs₀ (F := F)) Variants.none c none) E (cc0_mlp_proj i arg2 harg2 arg3 harg3 arg4 harg4 arg5 harg5 arg6 harg6 arg7 harg7 arg8 harg8 arg9 harg9 arg10 harg10 arg11 harg11 arg12 harg12) K := by
  simp only [cc0_mlp_proj_eq_skeleton]; unfold cc0_mlp_proj_skel
  simp only [k0_part7_eq_skeleton, k0_part1_eq_skeleton, k0_part2_eq_skeleton, k0_part3_eq_skeleton, k0_part4_eq_skeleton, k0_part5_eq_skeleton, k0_part6_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, HK⟩
  subst hf0 hf1 hf2 hf3 hf4 hf5 hf6 hf7 hf8 hf9 hf10
  by_cases h1 : k0_cond1 i = 1#1 <;> by_cases h2 : k0_cond2 i = 1#1 <;> by_cases h3 : k0_cond3 i = 1#1
  all_goals
    sl_exec (disch := first | sl_exact h1 | sl_exact h2 | sl_exact h3)
    sl_step
    iapply HK
    iexists _; iexists _; iexists _; iexists _; iexists _; iexists _
    isplitr
    swap
    · isplitl [H0]
      · iexists _; isplitr
        swap; · iexact H0
        ipureintro; rfl
      isplitl [H1]
      · iexists _; isplitr
        swap; · iexact H1
        ipureintro; rfl
      isplitl [H2]
      · iexists _; isplitr
        swap; · iexact H2
        ipureintro; rfl
      isplitl [H3]
      · iexists _; isplitr
        swap; · iexact H3
        ipureintro; rfl
      isplitl [H4]
      · iexists _; isplitr
        swap; · iexact H4
        ipureintro; rfl
      isplitl [H5]
      · iexists _; isplitr
        swap; · iexact H5
        ipureintro; rfl
      isplitl [H6]
      · iexists _; isplitr
        swap; · iexact H6
        ipureintro; rfl
      isplitl [H7]
      · iexists _; isplitr
        swap; · iexact H7
        ipureintro; rfl
      isplitl [H8]
      · iexists _; isplitr
        swap; · iexact H8
        ipureintro; rfl
      isplitl [H9]
      · iexists _; isplitr
        swap; · iexact H9
        ipureintro; rfl
      iexists _; isplitr
      swap; · iexact H10
      ipureintro; rfl
    ipureintro
    exact {
      codes := fun h => by
        first
        | exact absurd h h1
        | exact View.read_writes_eq_canon _ _ _ (codePieces_cover i h _ _),
      codes_idle := fun h => by
        first
        | exact absurd h1 h
        | rfl,
      kept := fun h => by
        first
        | exact absurd h h2
        | exact ⟨fun y hy => View.read_writes_apply_eq_canon _ _ y _ hy, fun y hy => View.read_writes_apply_of_forall_not_mem _ _ y _ hy⟩,
      kept_idle := fun h => by
        first
        | exact absurd h2 h
        | rfl,
      amax := fun h => by
        first
        | exact absurd h h2
        | exact (View.read_writes_full _ _ _ _ _).trans (congrArg (k0_pay4 _ _ _) ((View.readCov_full _ _ _ _ _).trans
            (congrArg (k0_pay46 _ _ _ _ _ _ _) ((View.readCov_full _ _ _ _ _).trans
            (congrArg (k0_pay37 _ _ _) ((View.readCov_full _ _ _ _ _).trans rfl)))))),
      amax_idle := fun h => by
        first
        | exact absurd h2 h
        | rfl,
      inv := fun h h' => by
        first
        | exact absurd h h2
        | exact absurd h' h3
        | exact (View.read_writes_full _ _ _ _ _).trans (congrArg k0_pay6 ((View.readCov_full _ _ _ _ _).trans (by symm; exact View.read_writes_full _ _ _ _ _))),
      rep := fun h h' => by
        first
        | exact absurd h h2
        | exact absurd h' h3
        | exact (View.read_writes_full _ _ _ _ _).trans (congrArg k0_pay7 ((View.readCov_full _ _ _ _ _).trans (by symm; exact View.read_writes_full _ _ _ _ _))),
      dense := fun h h' => by
        first
        | exact absurd h h2
        | exact absurd h' h3
        | exact (View.read_writes_full _ _ _ _ _).trans (congrArg k0_pay8 ((View.readCov_full _ _ _ _ _).trans (by symm; exact View.read_writes_full _ _ _ _ _))),
      scale_idle := fun h => by
        first
        | exact absurd (And.intro h2 h3) h
        | exact ⟨rfl, rfl, rfl⟩ }

end Cert.MlpIdeal.Gen

end
-- ==== Proof.MlpRun.lean ====
/- The MLP kernel's run: the body at every grid point under the state of `MlpState`, the launch, the frame, and what the two results hold. -/
module

public import proofs.«01_k».proof.Proof.MlpState
public import proofs.«01_k».proof.Proof.MlpBody
public import Idealize.ShloMosaic.Lib.Pipeline.DatRel
public import Idealize.ShloMosaic.Lib.Pipeline.ArrRel

@[expose] public section

set_option maxRecDepth 16384

noncomputable section

namespace Cert.MlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The scratch buffers in the state before point `t`, and the generator register. -/
def Φt (c : Dev nD) (t : ℕ) : sProp 𝕄 :=
  iprop((∃ G A I, ⌜Inv m c t G A I⌝ ∗ owns (c : Thread nD τ) (Memref.whole cc0_scratch0) fullShare G
    ∗ owns (c : Thread nD τ) (Memref.whole cc0_scratch1) fullShare A ∗ owns (c : Thread nD τ) (Memref.whole cc0_scratch2) fullShare I)
    ∗ ∃ r, prngReg c r)

/-- The arrays as the region finds them, each input's block left in place, the state above; the outputs are held to `Rl`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => fun _ => Classical.arbitrary _
    | ⟨6, _⟩ => fun _ => Classical.arbitrary _
    | ⟨7, _⟩ => fun _ => Classical.arbitrary _
  Φ t := Φt m c t.val
  q _ := fullShare
  owed _ := 0

/-- The output windows, of which only `Rl` is known. -/
def fgt : Fin 8 → Bool
  | ⟨0, _⟩ => false | ⟨1, _⟩ => false | ⟨2, _⟩ => false | ⟨3, _⟩ => false | ⟨4, _⟩ => false
  | ⟨5, _⟩ => true | ⟨6, _⟩ => true | ⟨7, _⟩ => true

/-- What the body leaves in the output windows: from the second row block on the codes of the previous row block; and from the end of a
    row block to its write-back the row scales. -/
def Rl (c : Dev nD) : (w : Fin cfg0.W) → Fin cfg0.N → ((cfg0.win w).block.Idx → Elt F (cfg0.win w).elt) → Prop
  | ⟨5, _⟩ => fun t X => ∀ h : 12 ≤ t.val, X = codesAt m c t h
  | ⟨7, _⟩ => fun t X => (t.val % 12 = 11 ∨ 96 ≤ t.val) → X = denseAt m c t.val
  | _ => fun _ _ => True

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The window of scales is not written back between the last row block's end and the last point, -/
theorem flush7_false : ∀ u : Fin cfg0.N, 95 ≤ u.val → u.val < 107 → (cfg0.win 7).flush u = false := by decide +kernel

theorem fetch7 (t : Fin cfg0.N) : (cfg0.win 7).fetch t = false := rfl

/-- so that in the last row block's round it still holds the scales that the point before left. -/
theorem finds7 (c : Dev nD) (t : Fin cfg0.N) (X) (h : ((dats m 0 c).toRRel fgt (Rl m c)).Finds 7 t X) (ht : 96 ≤ t.val) : X = denseAt m c t.val := by
  have hN : t.val < 108 := t.isLt
  rw [RDat.finds_of_pos _ (fetch7 t) (by omega)] at h
  rcases h with h | h
  · rw [flush7_false _ (by show 95 ≤ t.val - 1; omega) (by show t.val - 1 < 107; omega)] at h
    exact absurd h Bool.false_ne_true
  · have h' := Dat.toRRel_leaves (dats m 0 c) (fgt := fgt) (Rl := Rl m c) (w := 7) rfl h
    have h'' : X = denseAt m c (t.val - 1) := h' (by show (t.val - 1) % 12 = 11 ∨ 96 ≤ t.val - 1; omega)
    rw [h'']
    unfold denseAt
    rw [show min ((t.val - 1) / 12) 7 = min (t.val / 12) 7 by omega]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ Y, ⌜((dats m 0 c).toRRel fgt (Rl m c)).Finds 5 t Y⌝ ∗ owns (c : Thread nD τ) (st0_5 t) fullShare Y)
    ∗ (∃ Y, ⌜((dats m 0 c).toRRel fgt (Rl m c)).Finds 6 t Y⌝ ∗ owns (c : Thread nD τ) (st0_6 t) fullShare Y)
    ∗ (∃ Y, ⌜((dats m 0 c).toRRel fgt (Rl m c)).Finds 7 t Y⌝ ∗ owns (c : Thread nD τ) (st0_7 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, ⌜Rl m c 5 t X⌝ ∗ owns (c : Thread nD τ) (st0_5 t) fullShare X)
    ∗ (∃ X, ⌜Rl m c 6 t X⌝ ∗ owns (c : Thread nD τ) (st0_6 t) fullShare X)
    ∗ (∃ X, ⌜Rl m c 7 t X⌝ ∗ owns (c : Thread nD τ) (st0_7 t) fullShare X))

/-- The body at any point: the inputs hold their blocks, the scratch buffers the state; the step carries the state on. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.castSucc = Φt m c t.val from rfl, show (dats m 0 c).Φ t.succ = Φt m c (t.val + 1) from rfl,
    show (dats m 0 c).owesAt () t.succ = (dats m 0 c).owesAt () t.castSucc from rfl,
    after0_0, after0_1, after0_2, after0_3, after0_4]
  unfold Φt
  iintro ⟨⟨⟨%G, %A, %I, %hI, HG, HA, HI⟩, Hr⟩, Ho, ⟨%d0, H0⟩, ⟨%d1, H1⟩, ⟨%d2, H2⟩, ⟨%d3, H3⟩, ⟨%d4, H4⟩, ⟨%Y5, %f5, H5⟩, ⟨%Y6, %f6, H6⟩, ⟨%Y7, %f7, H7⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) Y5 Y6 Y7 G A I _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HG]; · iexact HG
  isplitl [HA]; · iexact HA
  isplitl [HI]; · iexact HI
  iintro ⟨%C', %R', %D', %G', %A', %I', %hs, H0, H1, H2, H3, H4, H5, H6, H7, HG, HA, HI⟩
  have st := step_inv m c t Y5 Y6 Y7 G A I C' R' D' G' A' I' hI (finds7 m c t Y7 f7) hs
  isplitl [HG HA HI Hr]
  · isplitl [HG HA HI]
    · iexists G'; iexists A'; iexists I'
      isplitr; · ipureintro; exact st.1
      isplitl [HG]; · iexact HG
      isplitl [HA]; · iexact HA
      iexact HI
    · iexact Hr
  isplitl [Ho]; · iexact Ho
  isplitl [H0]; · iexact H0
  isplitl [H1]; · iexact H1
  isplitl [H2]; · iexact H2
  isplitl [H3]; · iexact H3
  isplitl [H4]; · iexact H4
  isplitl [H5]
  · iexists C'
    isplitr; · ipureintro; exact st.2.1
    iexact H5
  isplitl [H6]
  · iexists R'
    isplitr; · ipureintro; exact trivial
    iexact H6
  iexists D'
  isplitr; · ipureintro; exact st.2.2
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-! ## The run and the frame -/

theorem hin (c : Dev nD) : (Pipeline.ΦA spec0 c : sProp 𝕄) ⊢ (dats m 0 c).Φ 0 := by
  rw [show (dats m 0 c).Φ 0 = Φt m c 0 from rfl]
  unfold Pipeline.ΦA Φt
  rw [scopedRest0_eq]
  simp only [owns_whole]
  iintro ⟨⟨⟨%G, HG⟩, ⟨%A, HA⟩, ⟨%I, HI⟩⟩, Hr⟩
  isplitl [HG HA HI]
  · iexists G; iexists A; iexists I
    isplitr; · ipureintro; exact inv_zero m c G A I
    isplitl [HG]; · iexact HG
    isplitl [HA]; · iexact HA
    iexact HI
  · iexact Hr

theorem hout (c : Dev nD) : (dats m 0 c).Φ (Fin.last cfg0.N) ⊢ (Pipeline.ΦA spec0 c : sProp 𝕄) := by
  rw [show (dats m 0 c).Φ (Fin.last cfg0.N) = Φt m c cfg0.N from rfl]
  unfold Pipeline.ΦA Φt
  rw [scopedRest0_eq]
  simp only [owns_whole]
  iintro ⟨⟨%G, %A, %I, %hI, HG, HA, HI⟩, Hr⟩
  isplitl [HG HA HI]
  · isplitl [HG]; · iexists G; iexact HG
    isplitl [HA]; · iexists A; iexact HA
    iexists I; iexact HI
  · iexact Hr

set_option backward.isDefEq.respectTransparency.types false in
set_option maxHeartbeats 800000 in
/-- The launch: every fair execution ends, the arrays at something that the relational proof data allow, every counter at zero. -/
theorem run_main : θ_run defs (onTc (τ := τ) (main (F := F))) (s₀ m ρ)
    (fun r => RDat.FramePost cfg0 (fun c => (dats m 0 c).toRRel fgt (Rl m c)) (V m) r ∧ r.2.sem = fun _ => 0) :=
  RDat.θ_run_frame_track (Q' := _) cfgs (0 : Fin 1) launch0 defs₀ Variants.none (fun c => (dats m 0 c).toRRel fgt (Rl m c)) m ρ main
    (fun c => (body_obligation m c).toRRel) (fun c w => by
      show (dats m 0 c).share w = fullShare
      unfold Dat.share
      split <;> rfl) (fun _ _ => rfl) (V m) (hmain m Variants.none) (A_eq m) (hin m) (hout m) (fun _ h => h)

/-- Every argument array ends as launched, -/
theorem kept_args {r : PUnit × MemSt nD τ sig (Elt F)} (h : RDat.FramePost cfg0 (fun c => (dats m 0 c).toRRel fgt (Rl m c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    (RDat.FramePost.arr_in h c 2 rfl).trans ((A_eq m c 2).trans (V_main_arg2 m c)),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => kept_args m h.1 c, h.2⟩) (run_main m ρ)

end Cert.MlpIdeal.Gen

end
-- ==== Proof.MlpValue.lean ====
/- The MLP kernel's two results: the codes and the row scales are `Spec.mlpCode` and `Spec.mlpScale` of the arguments. -/
module

public import proofs.«01_k».proof.Proof.MlpSpec
public import proofs.«01_k».proof.Proof.MlpRun
public import Idealize.ShloMosaic.Lib.Pipeline.ValueKit

@[expose] public section

noncomputable section

namespace Cert.MlpIdeal.Hand

open Cert.MlpIdeal Cert.MlpIdeal.Gen Idealize.ShloMosaic Idealize.ShloMosaic.TcCoe Idealize.SL.Sem
open Idealize.ShloMosaic.Pipeline (Dat RDat)
open scoped BigOperators

variable (m : (ℓ : Loc nD τ sig) → Buf (Elt Ideal) ℓ)

/-! ## What the region finds in the arrays the host operations made -/

theorem V0 (c : Dev nD) : V m c main_v0 = shapeCast S6144x3072 (m ((c : Thread nD τ).loc main_arg0)) shapeCasts_S4x1536x3072_S6144x3072 := by
  dsimp only [V, hostOps0]; after_results; rfl

theorem V2 (c : Dev nD) : V m c main_v2 = broadcastInDim S6144x128 ![0, 1] bcast_S6144x1_S6144x128_0_1 (shapeCast S6144x1 (m ((c : Thread nD τ).loc main_arg1)) shapeCasts_S4x1536_S6144x1) := by
  dsimp only [V, hostOps0]; after_results; rfl

theorem V3 (c : Dev nD) : V m c main_v3 = broadcastInDim S1x21504 ![1] bcast_S21504_S1x21504_1 (m ((c : Thread nD τ).loc main_arg3)) := by
  dsimp only [V, hostOps0]; after_results

theorem V4 (c : Dev nD) : V m c main_v4 = broadcastInDim S1x21504 ![1] bcast_S21504_S1x21504_1 (m ((c : Thread nD τ).loc main_arg4)) := by
  dsimp only [V, hostOps0]; after_results

/-! ## Which block each window holds at a point -/

theorem idx_facts : ∀ t : Fin cfg0.N, win0_0.index t = ![min (t.val / 12) 7, 0] ∧ win0_1.index t = ![min (t.val / 12) 7, 0]
    ∧ (t.val < 96 → win0_2.index t = ![0, t.val % 12 + 9]) ∧ (t.val < 96 → win0_3.index t = ![0, t.val % 12 + 9])
    ∧ (t.val < 96 → win0_4.index t = ![0, t.val % 12 + 9]) ∧ (12 ≤ t.val → win0_5.index t = ![(t.val - 12) / 12, t.val % 12])
    ∧ win0_7.index t = ![min (t.val / 12) 7, 0, 0] :=
  (by decide +kernel : ∀ t : Fin grid0.N, _)

/-- When the codes and the scales are written back. -/
theorem flush_facts : ∀ t : Fin cfg0.N, ((cfg0.win 5).flush t = true → 12 ≤ t.val) ∧ ((cfg0.win 7).flush t = true → t.val % 12 = 11 ∨ 96 ≤ t.val) :=
  (by decide +kernel : ∀ t : Fin grid0.N, _)

/-- The row block and the column block that a point reads. -/
def rb (t : Fin cfg0.N) : Fin 8 := ⟨min (t.val / 12) 7, by omega⟩
def cb (t : Fin cfg0.N) : Fin 12 := ⟨t.val % 12, by omega⟩
/-- The array row of row `r` of row block `i`. -/
def row (i : Fin 8) (r : Fin 768) : Fin 6144 := ⟨i.val * 768 + r.val, by omega⟩
/-- The column of column `n` of column block `j`. -/
def col (j : Fin 12) (n : Fin 1024) : Fin 12288 := ⟨j.val * 1024 + n.val, by omega⟩

/-! ## Each block, read in the arguments -/

theorem blk0 (c : Dev nD) (t : Fin cfg0.N) (r : Fin 768) (k : Fin 3072) :
    (iblk m c 0 t : Vec Ideal S768x3072 .fp8e4m3) (ix2 r k) = m ((c : Thread nD τ).loc main_arg0) (ix3 (Spec.batch (row (rb t) r)) (Spec.place (row (rb t) r)) k) := by
  obtain ⟨e0, -⟩ := idx_facts t
  have e : (win0_0.blk t).view.emb (ix2 r k) = ix2 (row (rb t) r) k := by blk_ext [e0, row, rb]
  blk_simp [iblk, e]
  refine (congrFun (V0 m c) _).trans ?_
  exact Spec.flat_apply _ _ _ _

/-- The row scale of row `r` of row block `i`. -/
def rowScale (c : Dev nD) (i : Fin 8) (r : Fin 768) : EReal := m ((c : Thread nD τ).loc main_arg1) (ix2 (Spec.batch (row i r)) (Spec.place (row i r)))

theorem blk1 (c : Dev nD) (t : Fin cfg0.N) (r : Fin 768) (k : Fin 128) :
    (iblk m c 1 t : Vec Ideal S768x128 .f32) (ix2 r k) = rowScale m c (rb t) r := by
  obtain ⟨-, e0, -⟩ := idx_facts t
  have e : (win0_1.blk t).view.emb (ix2 r k) = ix2 (row (rb t) r) k := by blk_ext [e0, row, rb]
  blk_simp [iblk, e]
  refine (congrFun (V2 m c) _).trans ?_
  exact Spec.lanes_apply _ _ _ _ _

theorem blk2 (c : Dev nD) (t : Fin cfg0.N) (h : t.val < 96) (k : Fin 3072) (n : Fin 1024) :
    (iblk m c 2 t : Vec Ideal S3072x1024 .fp8e4m3) (ix2 k n) = m ((c : Thread nD τ).loc main_arg2) (ix2 k (Spec.mlpCol (col (cb t) n))) := by
  have e0 := (idx_facts t).2.2.1 h
  have e : (win0_2.blk t).view.emb (ix2 k n) = ix2 k (Spec.mlpCol (col (cb t) n)) := by blk_ext [e0, col, cb, Spec.mlpCol]
  blk_simp [iblk, e]
  exact congrFun (V_main_arg2 m c) _

theorem blk3 (c : Dev nD) (t : Fin cfg0.N) (h : t.val < 96) (n : Fin 1024) :
    (iblk m c 3 t : Vec Ideal S1x1024 .f32) (ix2 0 n) = m ((c : Thread nD τ).loc main_arg3) (ix1 (Spec.mlpCol (col (cb t) n))) := by
  have e0 := (idx_facts t).2.2.2.1 h
  have e : (win0_3.blk t).view.emb (ix2 0 n) = ix2 0 (Spec.mlpCol (col (cb t) n)) := by blk_ext [e0, col, cb, Spec.mlpCol]
  blk_simp [iblk, e]
  refine (congrFun (V3 m c) _).trans ?_
  pointwise

theorem blk4 (c : Dev nD) (t : Fin cfg0.N) (h : t.val < 96) (n : Fin 1024) :
    (iblk m c 4 t : Vec Ideal S1x1024 .f32) (ix2 0 n) = m ((c : Thread nD τ).loc main_arg4) (ix1 (Spec.mlpCol (col (cb t) n))) := by
  have e0 := (idx_facts t).2.2.2.2.1 h
  have e : (win0_4.blk t).view.emb (ix2 0 n) = ix2 0 (Spec.mlpCol (col (cb t) n)) := by blk_ext [e0, col, cb, Spec.mlpCol]
  blk_simp [iblk, e]
  refine (congrFun (V4 m c) _).trans ?_
  pointwise

/-! ## The tiles -/

/-- The activation of device `c`'s arguments. -/
abbrev actAt (c : Dev nD) (r : Fin 6144) (n : Fin 12288) : EReal :=
  Spec.mlpAt (m ((c : Thread nD τ).loc main_arg0)) (m ((c : Thread nD τ).loc main_arg1)) (m ((c : Thread nD τ).loc main_arg2))
    (m ((c : Thread nD τ).loc main_arg3)) (m ((c : Thread nD τ).loc main_arg4)) r n

/-- Its magnitude. -/
abbrev magOf (c : Dev nD) (r : Fin 6144) (n : Fin 12288) : EReal :=
  Spec.mlpMag (m ((c : Thread nD τ).loc main_arg0)) (m ((c : Thread nD τ).loc main_arg1)) (m ((c : Thread nD τ).loc main_arg2))
    (m ((c : Thread nD τ).loc main_arg3)) (m ((c : Thread nD τ).loc main_arg4)) r n

/-- The row's largest magnitude. -/
abbrev maxAt (c : Dev nD) (r : Fin 6144) : EReal :=
  Spec.mlpMax (m ((c : Thread nD τ).loc main_arg0)) (m ((c : Thread nD τ).loc main_arg1)) (m ((c : Thread nD τ).loc main_arg2))
    (m ((c : Thread nD τ).loc main_arg3)) (m ((c : Thread nD τ).loc main_arg4)) r

theorem tile_val (c : Dev nD) (t : Fin cfg0.N) (h : t.val < 96) (r : Fin 768) (n : Fin 1024) :
    tileAt (iblk m c 0 t) (rowScale m c (rb t)) (iblk m c 2 t) (iblk m c 3 t) (iblk m c 4 t) r n = actAt m c (row (rb t) r) (col (cb t) n) :=
  congrArg geluAt (Ideal.add_congr (Ideal.mul_congr
    (Ideal.mul_congr (Finset.sum_congr rfl fun k _ => Ideal.mul_congr (blk0 m c t r k) (blk2 m c t h k n)) rfl)
    (blk3 m c t h n)) (blk4 m c t h n))

/-! ## The running maxima -/

/-- After `j + 1` column blocks of row block `i` the running maxima bound just the columns so far. -/
theorem AA_le (c : Dev nD) (i : Fin 8) (r : Fin 768) (B : EReal) (j : ℕ) (hj : j < 12) :
    (∀ l : Fin 128, (AA m c (12 * i.val + j + 1) (ix2 r l) : EReal) ≤ B)
      ↔ ∀ n : Fin 12288, n.val < 1024 * (j + 1) → magOf m c (row i r) n ≤ B := by
  induction j using Nat.strongRecOn with
  | _ j ih =>
  have step : ∀ (t : Fin cfg0.N), t.val = 12 * i.val + j → ((∀ l : Fin 128, (AA m c (t.val + 1) (ix2 r l) : EReal) ≤ B)
      ↔ (j ≠ 0 → ∀ l : Fin 128, (AA m c t.val (ix2 r l) : EReal) ≤ B) ∧ ∀ n : Fin 1024, magOf m c (row i r) (col ⟨j, hj⟩ n) ≤ B) := by
    intro t ht
    have e1 : ((grid0.coords t) 1).val = j := (coords_facts t).2.1.trans (by omega)
    have hr : rb t = i := Fin.ext (by show min (t.val / 12) 7 = i.val; omega)
    have hc : cb t = ⟨j, hj⟩ := Fin.ext (by show t.val % 12 = j; omega)
    rw [AA_succ]
    refine (amaxNew_le (iblk m c 0 t) (iblk m c 1 t) (iblk m c 2 t) (iblk m c 3 t) (iblk m c 4 t) (rowScale m c (rb t)) (grid0.coords t) (AA m c t.val) (blk1 m c t) r B).trans ?_
    rw [e1]
    refine and_congr_right fun _ => forall_congr' fun n => ?_
    unfold magAt
    rw [tile_val m c t (by omega), hr, hc]
    rfl
  refine (step ⟨12 * i.val + j, by show 12 * i.val + j < 108; omega⟩ rfl).trans ?_
  have cols : ∀ n : Fin 12288, 1024 * j ≤ n.val → (hn : n.val < 1024 * (j + 1)) → n = col ⟨j, hj⟩ ⟨n.val - 1024 * j, by omega⟩ :=
    fun n h0 hn => Fin.ext (by show n.val = j * 1024 + (n.val - 1024 * j); omega)
  have before : (j ≠ 0 → ∀ l : Fin 128, (AA m c (12 * i.val + j) (ix2 r l) : EReal) ≤ B) ↔ ∀ n : Fin 12288, n.val < 1024 * j → magOf m c (row i r) n ≤ B := by
    cases j with
    | zero => exact ⟨fun _ n hn => absurd hn (by omega), fun _ h0 => absurd rfl h0⟩
    | succ k => exact ⟨fun h' => (ih k (by omega) (by omega)).mp (h' (by omega)), fun h' _ => (ih k (by omega) (by omega)).mpr h'⟩
  refine (and_congr_left' before).trans ⟨fun ⟨h', h''⟩ n hn => ?_, fun h' => ⟨fun n hn => h' n (by omega), fun n => h' _ (by show j * 1024 + n.val < _; omega)⟩⟩
  by_cases h0 : n.val < 1024 * j
  · exact h' n h0
  · rw [cols n (by omega) hn]; exact h'' _

/-- At the end of a row block the largest lane is the row's largest magnitude. -/
theorem laneMax_eq (c : Dev nD) (i : Fin 8) (r : Fin 768) : laneMax (AA m c (12 * i.val + 12)) r = maxAt m c (row i r) := by
  have hbot : Ideal.ofBits .f32 0xFF800000#32 = ⊥ := by simp [Ideal.ofBits, Ideal.ieee]
  refine eq_of_forall_ge_iff fun B => ?_
  rw [Spec.mlpMax_le]
  unfold laneMax
  rw [Finset.fold_max_le, hbot]
  refine (Iff.trans ⟨fun h l => h.2 l (Finset.mem_univ l), fun h => ⟨bot_le, fun l _ => h l⟩⟩ (AA_le m c i r B 11 (by omega))).trans ?_
  exact ⟨fun h n => h n (by omega), fun h n _ => h n⟩

/-! ## The two results -/

theorem codes_val (c : Dev nD) (t : Fin cfg0.N) (h : 12 ≤ t.val) (r : Fin 768) (n : Fin 1024) :
    (codesAt m c t h (ix2 r n) : EReal) = Spec.mlpCode (m ((c : Thread nD τ).loc main_arg0)) (m ((c : Thread nD τ).loc main_arg1)) (m ((c : Thread nD τ).loc main_arg2))
      (m ((c : Thread nD τ).loc main_arg3)) (m ((c : Thread nD τ).loc main_arg4))
      (row ⟨(t.val - 12) / 12, by have : t.val < 108 := t.isLt; omega⟩ r) (col (cb t) n) := by
  have ht : t.val < 108 := t.isLt
  let u : Fin cfg0.N := ⟨t.val - 12, lt_of_le_of_lt (Nat.sub_le _ _) t.isLt⟩
  have hu : u.val < 96 := by show t.val - 12 < 96; omega
  have hr : rb u = ⟨(t.val - 12) / 12, by omega⟩ := Fin.ext (by show min ((t.val - 12) / 12) 7 = (t.val - 12) / 12; omega)
  have hc : cb u = cb t := Fin.ext (by show (t.val - 12) % 12 = t.val % 12; omega)
  have h1 := (coords_facts t).2.1
  have h2 : ((grid0.coords u) 1).val = (t.val - 12) % 12 := (coords_facts u).2.1
  have hM : 12 * (t.val / 12) = 12 * (rb u).val + 12 := by rw [hr]; show 12 * (t.val / 12) = 12 * ((t.val - 12) / 12) + 12; omega
  unfold codesAt
  refine (codeCanon_apply (grid0.coords t) _ _ _ (fun r n => actAt m c (row (rb u) r) (col (cb u) n))
    (fun r => Ideal.div 1 (scaleAt (maxAt m c (row (rb u) r)))) (fun y hy => ?_) (fun r l => ?_) (ix2 r n)).trans ?_
  · refine (gCanon_apply (iblk m c 0 u) (iblk m c 1 u) (iblk m c 2 u) (iblk m c 3 u) (iblk m c 4 u) (rowScale m c (rb u)) (grid0.coords u) _ (blk1 m c u) y
      (hy.trans (h1.trans (by rw [h2]; omega)))).trans ?_
    exact tile_val m c u hu (y 1) (y 2)
  · rw [pay6_apply, hM, laneMax_eq]
  · rw [← hr, ← hc]
    exact congrArg clipAt (mul_recip _ _)

theorem dense_val (c : Dev nD) (t : Fin cfg0.N) (z z' : Fin 1) (r : Fin 768) :
    (denseAt m c t.val (ix3 z z' r) : EReal) = Spec.mlpScale (m ((c : Thread nD τ).loc main_arg0)) (m ((c : Thread nD τ).loc main_arg1)) (m ((c : Thread nD τ).loc main_arg2))
      (m ((c : Thread nD τ).loc main_arg3)) (m ((c : Thread nD τ).loc main_arg4)) (row (rb t) r) := by
  unfold denseAt
  rw [pay8_apply]
  exact congrArg scaleAt (laneMax_eq m c (rb t) r)

variable {m} {r : PUnit × MemSt nD τ sig (Elt Ideal)}
  (h : RDat.FramePost cfg0 (fun c => (dats m 0 c).toRRel fgt (Rl m c)) (V m) r)
include h

/-- The codes after the run. -/
theorem final5 (c : Dev nD) : r.2.mem ((c.tc : Thread nD τ).loc main_v5_0) = fun i : S6144x12288.Idx =>
    Spec.mlpCode (m ((c : Thread nD τ).loc main_arg0)) (m ((c : Thread nD τ).loc main_arg1)) (m ((c : Thread nD τ).loc main_arg2))
      (m ((c : Thread nD τ).loc main_arg3)) (m ((c : Thread nD τ).loc main_arg4)) (i 0) (i 1) := by
  obtain ⟨af, hL, hA⟩ := RDat.FramePost.exists_exact h c
  refine (hA 5).trans ?_
  refine (((dats m 0 c).toRRel fgt (Rl m c)).withAfter af).arrAt_eq_of_covers 5 _ (by decide +kernel) fun t hf y => ?_
  idx_vars y
  have h12 := (flush_facts t).1 hf
  have hX : af 5 t = codesAt m c t h12 := Dat.toRRel_leaves (dats m 0 c) (fgt := fgt) (Rl := Rl m c) (w := 5) rfl (hL 5 t hf) h12
  have e0 := (idx_facts t).2.2.2.2.2.1 h12
  have e : (win0_5.blk t).view.emb (ix2 y0 y1) = ix2 (row ⟨(t.val - 12) / 12, by have : t.val < 108 := t.isLt; omega⟩ y0) (col (cb t) y1) := by blk_ext [e0, row, col, cb]
  blk_simp [e]
  rw [RDat.withAfter_after, hX]
  exact codes_val m c t h12 y0 y1

/-- The row scales after the run. -/
theorem final7 (c : Dev nD) : r.2.mem ((c.tc : Thread nD τ).loc main_v5_2) = fun i : S8x1x768.Idx =>
    Spec.mlpScale (m ((c : Thread nD τ).loc main_arg0)) (m ((c : Thread nD τ).loc main_arg1)) (m ((c : Thread nD τ).loc main_arg2))
      (m ((c : Thread nD τ).loc main_arg3)) (m ((c : Thread nD τ).loc main_arg4)) (row (i 0) (i 2)) := by
  obtain ⟨af, hL, hA⟩ := RDat.FramePost.exists_exact h c
  refine (hA 7).trans ?_
  refine (((dats m 0 c).toRRel fgt (Rl m c)).withAfter af).arrAt_eq_of_covers 7 _ (by decide +kernel) fun t hf y => ?_
  idx_vars y
  have hX : af 7 t = denseAt m c t.val := Dat.toRRel_leaves (dats m 0 c) (fgt := fgt) (Rl := Rl m c) (w := 7) rfl (hL 7 t hf) ((flush_facts t).2 hf)
  have e0 := (idx_facts t).2.2.2.2.2.2
  have e : (win0_7.blk t).view.emb (ix3 y0 y1 y2) = ix3 (rb t) 0 y2 := by blk_ext [e0, rb]
  blk_simp [e]
  rw [RDat.withAfter_after, hX]
  exact dense_val m c t y0 y1 y2

end Cert.MlpIdeal.Hand

end
-- ==== Proof.MlpRefValue.lean ====
/- The MLP's reference: its codes and its row scales are `Spec.mlpCode` and `Spec.mlpScale` of the arguments. -/
module

public import proofs.«01_k».proof.Proof.MlpSpec
public import proofs.«01_k».proof.Proof.Gen.MlpRefIdeal.Run
public import proofs.«01_k».proof.Proof.Gen.MlpRefIdeal.Read
public import Idealize.ShloMosaic.Lib.Pipeline.ValueKit

@[expose] public section

noncomputable section

namespace Cert.MlpRefIdeal.Hand

open Cert.MlpRefIdeal Cert.MlpRefIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-! ## What the region finds -/

theorem arr0 (c : Dev nD) : V m c main_v0 = shapeCast S6144x3072 (m ((c : Thread nD τ).loc main_arg0)) shapeCasts_S4x1536x3072_S6144x3072 := by
  simp only [V, Gen.V0, List.flatten_cons, List.flatten_nil, List.append_nil]; after_results; rfl

theorem arr1 (c : Dev nD) : V m c main_v1 = shapeCast S6144x1 (m ((c : Thread nD τ).loc main_arg1)) shapeCasts_S4x1536_S6144x1 := by
  simp only [V, Gen.V0, List.flatten_cons, List.flatten_nil, List.append_nil]; after_results; rfl

theorem idx_facts : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

theorem arr2 (c : Dev nD) : V m c main_v2 = broadcastInDim S1x21504 ![1] bcast_S21504_S1x21504_1 (m ((c : Thread nD τ).loc main_arg3)) := by
  simp only [V, Gen.V0, List.flatten_cons, List.flatten_nil, List.append_nil]; after_results

theorem arr3 (c : Dev nD) : V m c main_v3 = broadcastInDim S1x21504 ![1] bcast_S21504_S1x21504_1 (m ((c : Thread nD τ).loc main_arg4)) := by
  simp only [V, Gen.V0, List.flatten_cons, List.flatten_nil, List.append_nil]; after_results

/-! ## What the body loads, read in the arguments -/

theorem ld0 (c : Dev nD) (t : Fin cfg0.N) (r : Fin 6144) (k : Fin 3072) :
    (View.ld (iblk m c 0 t : Vec Ideal S6144x3072 .fp8e4m3) r0_0 : Vec Ideal S6144x3072 .fp8e4m3) (ix2 r k) = m ((c : Thread nD τ).loc main_arg0) (ix3 (Spec.batch r) (Spec.place r) k) := by
  obtain ⟨e0, -⟩ := idx_facts t
  have el : r0_0.emb (ix2 r k) = ix2 r k := by
    funext a; fin_cases a <;> exact Fin.ext (by show 0 + 1 * _ = _; omega)
  have e : (win0_0.blk t).view.emb (ix2 r k) = ix2 r k := by blk_ext [e0]
  refine (congrArg (iblk m c 0 t : Vec Ideal S6144x3072 .fp8e4m3) el).trans ?_
  blk_simp [iblk, e]
  exact (congrFun (arr0 m c) _).trans (Spec.flat_apply _ _ _ _)

/-- Row scales (4, 1536) as a column, read at row `r`. -/
theorem column_apply {α : Type} (x : (⟨2, ![4, 1536]⟩ : Shape).Idx → α) (h : (⟨2, ![4, 1536]⟩ : Shape).ShapeCasts ⟨2, ![6144, 1]⟩) (r : Fin 6144) (z : Fin 1) :
    shapeCast ⟨2, ![6144, 1]⟩ x h (ix2 r z) = x (ix2 (Spec.batch r) (Spec.place r)) := by
  pointwise
  rfl

theorem ld1 (c : Dev nD) (t : Fin cfg0.N) (r : Fin 6144) :
    (View.ld (iblk m c 1 t : Vec Ideal S6144x1 .f32) r0_2 : Vec Ideal S6144x1 .f32) (ix2 r 0) = m ((c : Thread nD τ).loc main_arg1) (ix2 (Spec.batch r) (Spec.place r)) := by
  obtain ⟨-, e0, -⟩ := idx_facts t
  have el : r0_2.emb (ix2 r 0) = ix2 r 0 := by
    funext a; fin_cases a
    · exact Fin.ext (by show 0 + 1 * r.val = r.val; omega)
    · exact Fin.ext (by show 0 + 1 * 0 = 0; omega)
  have e : (win0_1.blk t).view.emb (ix2 r 0) = ix2 r 0 := by blk_ext [e0]
  refine (congrArg (iblk m c 1 t : Vec Ideal S6144x1 .f32) el).trans ?_
  blk_simp [iblk, e]
  exact (congrFun (arr1 m c) _).trans (column_apply _ _ _ _)

theorem ld2 (c : Dev nD) (t : Fin cfg0.N) (k : Fin 3072) (n : Fin 12288) :
    (View.ld (iblk m c 2 t : Vec Ideal S3072x21504 .fp8e4m3) r0_1 : Vec Ideal S3072x12288 .fp8e4m3) (ix2 k n) = m ((c : Thread nD τ).loc main_arg2) (ix2 k (Spec.mlpCol n)) := by
  obtain ⟨-, -, e0, -⟩ := idx_facts t
  have el : r0_1.emb (ix2 k n) = ix2 k (Spec.mlpCol n) := by
    funext a; fin_cases a
    · exact Fin.ext (by show 0 + 1 * k.val = k.val; omega)
    · exact Fin.ext (by show 9216 + 1 * n.val = 9216 + n.val; omega)
  have e : (win0_2.blk t).view.emb (ix2 k (Spec.mlpCol n)) = ix2 k (Spec.mlpCol n) := by blk_ext [e0]
  refine (congrArg (iblk m c 2 t : Vec Ideal S3072x21504 .fp8e4m3) el).trans ?_
  blk_simp [iblk, e]
  exact congrFun (V_main_arg2 m c) _

theorem cols (n : Fin 12288) : r0_3.emb (ix2 0 n) = ix2 0 (Spec.mlpCol n) := by
  funext a; fin_cases a
  · exact Fin.ext (by show 0 + 1 * 0 = 0; omega)
  · exact Fin.ext (by show 9216 + 1 * n.val = 9216 + n.val; omega)

theorem ld3 (c : Dev nD) (t : Fin cfg0.N) (n : Fin 12288) :
    (View.ld (iblk m c 3 t : Vec Ideal S1x21504 .f32) r0_3 : Vec Ideal S1x12288 .f32) (ix2 0 n) = m ((c : Thread nD τ).loc main_arg3) (ix1 (Spec.mlpCol n)) := by
  obtain ⟨-, -, -, e0, -⟩ := idx_facts t
  have e : (win0_3.blk t).view.emb (ix2 0 (Spec.mlpCol n)) = ix2 0 (Spec.mlpCol n) := by blk_ext [e0]
  refine (congrArg (iblk m c 3 t : Vec Ideal S1x21504 .f32) (cols n)).trans ?_
  blk_simp [iblk, e]
  refine (congrFun (arr2 m c) _).trans ?_
  pointwise

theorem ld4 (c : Dev nD) (t : Fin cfg0.N) (n : Fin 12288) :
    (View.ld (iblk m c 4 t : Vec Ideal S1x21504 .f32) r0_3 : Vec Ideal S1x12288 .f32) (ix2 0 n) = m ((c : Thread nD τ).loc main_arg4) (ix1 (Spec.mlpCol n)) := by
  obtain ⟨-, -, -, -, e0, -⟩ := idx_facts t
  have e : (win0_4.blk t).view.emb (ix2 0 (Spec.mlpCol n)) = ix2 0 (Spec.mlpCol n) := by blk_ext [e0]
  refine (congrArg (iblk m c 4 t : Vec Ideal S1x21504 .f32) (cols n)).trans ?_
  blk_simp [iblk, e]
  refine (congrFun (arr3 m c) _).trans ?_
  pointwise

/-! ## The payloads, over any loaded values -/

section
open Cert.MlpIdeal.Hand (geluAt scaleAt clipAt)
variable (v0 : Vec Ideal S6144x3072 .fp8e4m3) (v2 : Vec Ideal S3072x12288 .fp8e4m3) (v4 : Vec Ideal S6144x1 .f32) (v8 v12 : Vec Ideal S1x12288 .f32)
  (r : Fin 6144) (n : Fin 12288)

theorem pay2_apply : (k0_pay2 v0 v2 v4 v8 v12 (ix2 r n) : EReal)
    = geluAt ((∑ k : Fin 3072, v0 (ix2 r k) * v2 (ix2 k n)) * v4 (ix2 r 0) * v8 (ix2 0 n) + v12 (ix2 0 n)) := by
  unfold_payloads
  pointwise [geluAt]

/-- A quotient, element by element. -/
theorem divf_at {s : Shape} (A B : FVec Ideal s .f32) (i : s.Idx) : (divf A B i : Ideal .f32) = Ideal.div (A i) (B i) := rfl

/-- A column repeated over the columns. -/
theorem column_bcast (S : FVec Ideal S6144x1 .f32) : broadcastTo S6144x12288 S broadcasts_S6144x1_S6144x12288 (ix2 r n) = S (ix2 r 0) := by
  pointwise

/-- A scale of a largest magnitude, element by element. -/
theorem scale_at {s : Shape} (M : FVec Ideal s .f32) (i : s.Idx) : (select (cmpf .oeq M (broadcast s (Scalar.ofBits (F := Ideal) .f32 0x00000000#32))) (broadcast s (Scalar.ofBits (F := Ideal) .f32 0x3F800000#32))
    (divf M (broadcast s (Scalar.ofBits (F := Ideal) .f32 0x43E00000#32))) i : Ideal .f32) = scaleAt (M i) := by
  pointwise [scaleAt]

theorem column_of (S : FVec Ideal S6144 .f32) (z : Fin 1) : shapeCast S6144x1 S shapeCasts_S6144_S6144x1 (ix2 r z) = S (ix1 r) := by
  pointwise

theorem rowMax_at (A : FVec Ideal S6144x12288 .f32) : (multiReduction .maximumf [1] S6144 A 0xFF800000#32 reduces_S6144x12288_S6144 (.inl rfl) rfl : FVec Ideal S6144 .f32) (ix1 r) = Finset.univ.fold max (Ideal.ofBits .f32 0xFF800000#32) fun n : Fin 12288 => A (ix2 r n) := by
  pointwise

theorem pay3_apply (z : Fin 1) : (k0_pay3 v0 v2 v4 v8 v12 (ix2 r z) : EReal)
    = scaleAt (Finset.univ.fold max (Ideal.ofBits .f32 0xFF800000#32) fun n : Fin 12288 => (FloatOps.absf (k0_pay2 v0 v2 v4 v8 v12 (ix2 r n) : Ideal .f32) : Ideal .f32)) := by
  unfold k0_pay3
  exact (scale_at _ _).trans (congrArg scaleAt ((column_of r _ z).trans (rowMax_at r _)))

theorem pay4_apply : (k0_pay4 v0 v2 v4 v8 v12 (ix2 r n) : EReal) = Ideal.div (k0_pay2 v0 v2 v4 v8 v12 (ix2 r n)) (k0_pay3 v0 v2 v4 v8 v12 (ix2 r 0)) := by
  unfold k0_pay4
  exact (divf_at _ _ _).trans (congrArg (Ideal.div _) (column_bcast r n _))

theorem pay1_apply (v : Vec Ideal S6144x12288 .f32) : (k0_pay1 v (Scalar.ofBits (F := Ideal) .f32 0xC3E00000#32) (ix2 r n) : EReal) = clipAt (v (ix2 r n)) := by
  unfold k0_pay1
  pointwise [clipAt]

end

/-! ## The two results -/

theorem act_val (c : Dev nD) (t : Fin cfg0.N) (r : Fin 6144) (n : Fin 12288) :
    (k0_pay2 (F := Ideal) (View.ld (iblk m c 0 t) r0_0) (View.ld (iblk m c 2 t) r0_1) (View.ld (iblk m c 1 t) r0_2) (View.ld (iblk m c 3 t) r0_3) (View.ld (iblk m c 4 t) r0_3) (ix2 r n) : EReal)
    = Spec.mlpAt (m ((c : Thread nD τ).loc main_arg0)) (m ((c : Thread nD τ).loc main_arg1)) (m ((c : Thread nD τ).loc main_arg2))
      (m ((c : Thread nD τ).loc main_arg3)) (m ((c : Thread nD τ).loc main_arg4)) r n :=
  (pay2_apply _ _ _ _ _ r n).trans (congrArg Cert.MlpIdeal.Hand.geluAt (Ideal.add_congr (Ideal.mul_congr
    (Ideal.mul_congr (Finset.sum_congr rfl fun k _ => Ideal.mul_congr (ld0 m c t r k) (ld2 m c t k n)) (ld1 m c t r))
    (ld3 m c t n)) (ld4 m c t n)))

theorem scale_val (c : Dev nD) (t : Fin cfg0.N) (r : Fin 6144) (z : Fin 1) :
    (k0_pay3 (F := Ideal) (View.ld (iblk m c 0 t) r0_0) (View.ld (iblk m c 2 t) r0_1) (View.ld (iblk m c 1 t) r0_2) (View.ld (iblk m c 3 t) r0_3) (View.ld (iblk m c 4 t) r0_3) (ix2 r z) : EReal)
    = Spec.mlpScale (m ((c : Thread nD τ).loc main_arg0)) (m ((c : Thread nD τ).loc main_arg1)) (m ((c : Thread nD τ).loc main_arg2))
      (m ((c : Thread nD τ).loc main_arg3)) (m ((c : Thread nD τ).loc main_arg4)) r := by
  refine (pay3_apply _ _ _ _ _ r z).trans (congrArg Cert.MlpIdeal.Hand.scaleAt ?_)
  refine congrArg (fun f => Finset.univ.fold max (Ideal.ofBits .f32 0xFF800000#32) f) (funext fun n => ?_)
  exact congrArg (fun v : Ideal .f32 => (FloatOps.absf v : Ideal .f32)) (act_val m c t r n)

/-- The codes that the region leaves. -/
theorem codes (c : Dev nD) : Value.reg_main_v4_0 m c = fun i : S6144x12288.Idx => Spec.mlpCode (m ((c : Thread nD τ).loc main_arg0)) (m ((c : Thread nD τ).loc main_arg1)) (m ((c : Thread nD τ).loc main_arg2))
      (m ((c : Thread nD τ).loc main_arg3)) (m ((c : Thread nD τ).loc main_arg4)) (i 0) (i 1) := by
  refine (dats m 0 c).arrAt_eq_of_covers 5 _ (by decide +kernel) fun t _ y => ?_
  idx_vars y
  obtain ⟨-, -, -, -, -, e0, -⟩ := idx_facts t
  have e : (win0_5.blk t).view.emb (ix2 y0 y1) = ix2 y0 y1 := by blk_ext [e0]
  blk_simp [e]
  rw [after0_5]
  unfold out0_5
  rw [View.canon_unit_zero (by decide)]
  refine (pay1_apply y0 y1 _).trans (congrArg Cert.MlpIdeal.Hand.clipAt ((pay4_apply _ _ _ _ _ y0 y1).trans ?_))
  exact congrArg₂ Ideal.div (act_val m c t y0 y1) (scale_val m c t y0 0)

/-- The scales that the region leaves. -/
theorem scales (c : Dev nD) : Value.reg_main_v4_1 m c = fun i : S6144x1.Idx => Spec.mlpScale (m ((c : Thread nD τ).loc main_arg0)) (m ((c : Thread nD τ).loc main_arg1)) (m ((c : Thread nD τ).loc main_arg2))
      (m ((c : Thread nD τ).loc main_arg3)) (m ((c : Thread nD τ).loc main_arg4)) (i 0) := by
  refine (dats m 0 c).arrAt_eq_of_covers 6 _ (by decide +kernel) fun t _ y => ?_
  idx_vars y
  obtain ⟨-, -, -, -, -, -, e0⟩ := idx_facts t
  have e : (win0_6.blk t).view.emb (ix2 y0 y1) = ix2 y0 y1 := by blk_ext [e0]
  blk_simp [e]
  rw [after0_6]
  unfold out0_6
  rw [View.canon_unit_zero (by decide)]
  exact scale_val m c t y0 y1

end Cert.MlpRefIdeal.Hand

end
-- ==== Proof.MlpProof.lean ====
/- The MLP projection: the kernel and its reference end with equal codes and equal row scales, as extended reals. -/
module

public import proofs.«01_k».proof.Defs
public import proofs.«01_k».proof.Proof.MlpValue
public import proofs.«01_k».proof.Proof.MlpRefValue

@[expose] public section

noncomputable section

namespace Cert.Proof

open Idealize.ShloMosaic Idealize.SL.Sem

/-- `Spec.mlpCode` and `Spec.mlpScale` are the common results. -/
theorem mlp_algebraic : Cert.algebraic_MlpIdeal_MlpRefIdeal := by
  intro m g m' g' _ hagree
  refine ⟨fun c => fun i : (⟨2, ![6144, 12288]⟩ : Shape).Idx =>
      Spec.mlpCode (m ((c.tc : Thread Cert.MlpIdeal.nD Cert.MlpIdeal.τ).loc Cert.MlpIdeal.main_arg0)) (m ((c.tc : Thread Cert.MlpIdeal.nD Cert.MlpIdeal.τ).loc Cert.MlpIdeal.main_arg1))
        (m ((c.tc : Thread Cert.MlpIdeal.nD Cert.MlpIdeal.τ).loc Cert.MlpIdeal.main_arg2)) (m ((c.tc : Thread Cert.MlpIdeal.nD Cert.MlpIdeal.τ).loc Cert.MlpIdeal.main_arg3))
        (m ((c.tc : Thread Cert.MlpIdeal.nD Cert.MlpIdeal.τ).loc Cert.MlpIdeal.main_arg4)) (i 0) (i 1),
    fun c => fun i : (⟨3, ![8, 1, 768]⟩ : Shape).Idx =>
      Spec.mlpScale (m ((c.tc : Thread Cert.MlpIdeal.nD Cert.MlpIdeal.τ).loc Cert.MlpIdeal.main_arg0)) (m ((c.tc : Thread Cert.MlpIdeal.nD Cert.MlpIdeal.τ).loc Cert.MlpIdeal.main_arg1))
        (m ((c.tc : Thread Cert.MlpIdeal.nD Cert.MlpIdeal.τ).loc Cert.MlpIdeal.main_arg2)) (m ((c.tc : Thread Cert.MlpIdeal.nD Cert.MlpIdeal.τ).loc Cert.MlpIdeal.main_arg3))
        (m ((c.tc : Thread Cert.MlpIdeal.nD Cert.MlpIdeal.τ).loc Cert.MlpIdeal.main_arg4)) (Cert.MlpIdeal.Hand.row (i 0) (i 2)),
    (θ_run _ _ _).mono (fun _ h c => ⟨Cert.MlpIdeal.Hand.final5 h.1 c, Cert.MlpIdeal.Hand.final7 h.1 c, Cert.MlpIdeal.Gen.kept_args m h.1 c⟩) (Cert.MlpIdeal.Gen.run_main m g),
    (θ_run _ _ _).mono (fun _ h c => ⟨(h c).1.trans ((Cert.MlpRefIdeal.Hand.codes m' c).trans ?_), (h c).2.1.trans ?_, (h c).2.2⟩) (Cert.MlpRefIdeal.Value.run m' g')⟩
  · obtain ⟨e0, e1, e2, e3, e4⟩ := hagree c
    rw [e0, e1, e2, e3, e4]
  · obtain ⟨e0, e1, e2, e3, e4⟩ := hagree c
    rw [Cert.MlpRefIdeal.Hand.scales m' c, e0, e1, e2, e3, e4]
    funext i
    refine (Cert.MlpRefIdeal.Read.val_main_v5_apply (F := Ideal) _ i).trans ?_
    refine congrArg (Spec.mlpScale _ _ _ _ _) (Fin.ext ?_)
    have h0 : (i 0).val < 8 := (i 0).isLt
    have h1 : (i 1).val < 1 := (i 1).isLt
    show (((i 0).val * 1 + (i 1).val) * 768 + (i 2).val) / 1 = (i 0).val * 768 + (i 2).val
    omega

end Cert.Proof

end
-- ==== Proof.MlpFrame.lean ====
/- The MLP kernel at any float semantics: its body runs at every grid point, every fair execution ends, and the arguments are unchanged.
   Nothing is said of the values it computes. -/
module

public import proofs.«01_k».proof.Proof.Gen.Mlp.Skeleton
public import proofs.«01_k».proof.Proof.Gen.Mlp.Frame
public import Idealize.ShloMosaic.Lib.VecWindow
public import Idealize.ShloMosaic.Lib.Pipeline.DatRel
public import Idealize.ShloMosaic.Lib.Pipeline.ArrRel

@[expose] public section

set_option maxRecDepth 16384

noncomputable section

namespace Cert.Mlp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body -/

set_option maxHeartbeats 4000000 in
/-- The body at any point, whichever of its three conditions hold: it leaves its inputs alone. -/
theorem sound_kernel (c : Dev nD) (E : Set ℕ) (i : grid0.Coords) (arg2 : Memref sig .tc .vmem S768x3072 .fp8e4m3) (harg2 : arg2.IsWhole) (arg3 : Memref sig .tc .vmem S768x128 .f32) (harg3 : arg3.IsWhole) (arg4 : Memref sig .tc .vmem S3072x1024 .fp8e4m3) (harg4 : arg4.IsWhole) (arg5 : Memref sig .tc .vmem S1x1024 .f32) (harg5 : arg5.IsWhole) (arg6 : Memref sig .tc .vmem S1x1024 .f32) (harg6 : arg6.IsWhole) (arg7 : Memref sig .tc .vmem S768x1024 .fp8e4m3) (harg7 : arg7.IsWhole) (arg8 : Memref sig .tc .vmem S768x128 .f32) (harg8 : arg8.IsWhole) (arg9 : Memref sig .tc .vmem S1x1x768 .f32) (harg9 : arg9.IsWhole) (arg10 : Memref sig .tc .vmem S12x768x1024 .f32) (harg10 : arg10.IsWhole) (arg11 : Memref sig .tc .vmem S768x128 .f32) (harg11 : arg11.IsWhole) (arg12 : Memref sig .tc .vmem S768x128 .f32) (harg12 : arg12.IsWhole)
    (x0 : Vec F S768x3072 .fp8e4m3) (x1 : Vec F S768x128 .f32) (x2 : Vec F S3072x1024 .fp8e4m3) (x3 : Vec F S1x1024 .f32) (x4 : Vec F S1x1024 .f32)
    (xc : Vec F S768x1024 .fp8e4m3) (xr : Vec F S768x128 .f32) (xd : Vec F S1x1x768 .f32) (xg : Vec F S12x768x1024 .f32) (xa : Vec F S768x128 .f32) (xi : Vec F S768x128 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xc ∗ owns (c : Thread nD τ) arg8 fullShare xr ∗ owns (c : Thread nD τ) arg9 fullShare xd ∗ owns (c : Thread nD τ) arg10 fullShare xg ∗ owns (c : Thread nD τ) arg11 fullShare xa ∗ owns (c : Thread nD τ) arg12 fullShare xi
        ∗ (iprop(∃ C' R' D' G' A' I', owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare C' ∗ owns (c : Thread nD τ) arg8 fullShare R' ∗ owns (c : Thread nD τ) arg9 fullShare D' ∗ owns (c : Thread nD τ) arg10 fullShare G' ∗ owns (c : Thread nD τ) arg11 fullShare A' ∗ owns (c : Thread nD τ) arg12 fullShare I') -∗ K ⟨⟩))
      ⊢ wp frame (wpE (defs₀ (F := F)) Variants.none c none) E (cc0_mlp_proj i arg2 harg2 arg3 harg3 arg4 harg4 arg5 harg5 arg6 harg6 arg7 harg7 arg8 harg8 arg9 harg9 arg10 harg10 arg11 harg11 arg12 harg12) K := by
  simp only [cc0_mlp_proj_eq_skeleton]; unfold cc0_mlp_proj_skel
  simp only [k0_part7_eq_skeleton, k0_part1_eq_skeleton, k0_part2_eq_skeleton, k0_part3_eq_skeleton, k0_part4_eq_skeleton, k0_part5_eq_skeleton, k0_part6_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, HK⟩
  subst hf0 hf1 hf2 hf3 hf4 hf5 hf6 hf7 hf8 hf9 hf10
  by_cases h1 : k0_cond1 i = 1#1 <;> by_cases h2 : k0_cond2 i = 1#1 <;> by_cases h3 : k0_cond3 i = 1#1
  all_goals
    sl_exec (disch := first | sl_exact h1 | sl_exact h2 | sl_exact h3)
    sl_step
    iapply HK
    iexists _; iexists _; iexists _; iexists _; iexists _; iexists _
    · isplitl [H0]
      · iexists _; isplitr
        swap; · iexact H0
        ipureintro; rfl
      isplitl [H1]
      · iexists _; isplitr
        swap; · iexact H1
        ipureintro; rfl
      isplitl [H2]
      · iexists _; isplitr
        swap; · iexact H2
        ipureintro; rfl
      isplitl [H3]
      · iexists _; isplitr
        swap; · iexact H3
        ipureintro; rfl
      isplitl [H4]
      · iexists _; isplitr
        swap; · iexact H4
        ipureintro; rfl
      isplitl [H5]
      · iexists _; isplitr
        swap; · iexact H5
        ipureintro; rfl
      isplitl [H6]
      · iexists _; isplitr
        swap; · iexact H6
        ipureintro; rfl
      isplitl [H7]
      · iexists _; isplitr
        swap; · iexact H7
        ipureintro; rfl
      isplitl [H8]
      · iexists _; isplitr
        swap; · iexact H8
        ipureintro; rfl
      isplitl [H9]
      · iexists _; isplitr
        swap; · iexact H9
        ipureintro; rfl
      iexists _; isplitr
      swap; · iexact H10
      ipureintro; rfl

/-! ## The proof data -/

/-- The arrays as the region finds them, each input's block left in place, the scratch buffers at anything; the outputs are held to nothing. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => fun _ => Classical.arbitrary _
    | ⟨6, _⟩ => fun _ => Classical.arbitrary _
    | ⟨7, _⟩ => fun _ => Classical.arbitrary _
  Φ _ := Pipeline.ΦA spec0 c
  q _ := fullShare
  owed _ := 0

/-- The output windows, of which nothing is known. -/
def fgt : Fin 8 → Bool
  | ⟨0, _⟩ => false | ⟨1, _⟩ => false | ⟨2, _⟩ => false | ⟨3, _⟩ => false | ⟨4, _⟩ => false
  | ⟨5, _⟩ => true | ⟨6, _⟩ => true | ⟨7, _⟩ => true

/-- No condition on what the body leaves in an output window. -/
def Rl (c : Dev nD) : (w : Fin cfg0.W) → Fin cfg0.N → ((cfg0.win w).block.Idx → Elt F (cfg0.win w).elt) → Prop := fun _ _ _ => True

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ Y, ⌜((dats m 0 c).toRRel fgt (Rl c)).Finds 5 t Y⌝ ∗ owns (c : Thread nD τ) (st0_5 t) fullShare Y)
    ∗ (∃ Y, ⌜((dats m 0 c).toRRel fgt (Rl c)).Finds 6 t Y⌝ ∗ owns (c : Thread nD τ) (st0_6 t) fullShare Y)
    ∗ (∃ Y, ⌜((dats m 0 c).toRRel fgt (Rl c)).Finds 7 t Y⌝ ∗ owns (c : Thread nD τ) (st0_7 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, ⌜Rl c 5 t X⌝ ∗ owns (c : Thread nD τ) (st0_5 t) fullShare X)
    ∗ (∃ X, ⌜Rl c 6 t X⌝ ∗ owns (c : Thread nD τ) (st0_6 t) fullShare X)
    ∗ (∃ X, ⌜Rl c 7 t X⌝ ∗ owns (c : Thread nD τ) (st0_7 t) fullShare X))

/-- The state between points: the three scratch buffers and the generator register. -/
theorem state_eq (c : Dev nD) : (Pipeline.ΦA spec0 c : sProp 𝕄) = iprop(((∃ G, owns (c : Thread nD τ) (Memref.whole cc0_scratch0) fullShare G)
    ∗ (∃ A, owns (c : Thread nD τ) (Memref.whole cc0_scratch1) fullShare A) ∗ (∃ I, owns (c : Thread nD τ) (Memref.whole cc0_scratch2) fullShare I))
    ∗ ∃ r, prngReg c r) := by
  unfold Pipeline.ΦA
  rw [scopedRest0_eq]
  simp only [owns_whole]

/-- The body at any point: the inputs hold their blocks, the scratch buffers anything. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl,
    after0_0, after0_1, after0_2, after0_3, after0_4]
  simp only [state_eq]
  iintro ⟨⟨⟨⟨%G, HG⟩, ⟨%A, HA⟩, ⟨%I, HI⟩⟩, Hr⟩, Ho, ⟨%d0, H0⟩, ⟨%d1, H1⟩, ⟨%d2, H2⟩, ⟨%d3, H3⟩, ⟨%d4, H4⟩, ⟨%Y5, %f5, H5⟩, ⟨%Y6, %f6, H6⟩, ⟨%Y7, %f7, H7⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) Y5 Y6 Y7 G A I _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HG]; · iexact HG
  isplitl [HA]; · iexact HA
  isplitl [HI]; · iexact HI
  iintro ⟨%C', %R', %D', %G', %A', %I', H0, H1, H2, H3, H4, H5, H6, H7, HG, HA, HI⟩
  isplitl [HG HA HI Hr]
  · isplitl [HG HA HI]
    · isplitl [HG]; · iexists G'; iexact HG
      isplitl [HA]; · iexists A'; iexact HA
      iexists I'; iexact HI
    · iexact Hr
  isplitl [Ho]; · iexact Ho
  isplitl [H0]; · iexact H0
  isplitl [H1]; · iexact H1
  isplitl [H2]; · iexact H2
  isplitl [H3]; · iexact H3
  isplitl [H4]; · iexact H4
  isplitl [H5]
  · iexists C'
    isplitr; · ipureintro; exact trivial
    iexact H5
  isplitl [H6]
  · iexists R'
    isplitr; · ipureintro; exact trivial
    iexact H6
  iexists D'
  isplitr; · ipureintro; exact trivial
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ fgt (Rl c) := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: every fair execution ends, every counter at zero. -/
theorem run_main : θ_run defs (onTc (τ := τ) (main (F := F))) (s₀ m ρ)
    (fun r => RDat.FramePost cfg0 (fun c => (dats m 0 c).toRRel fgt (Rl c)) (V m) r ∧ r.2.sem = fun _ => 0) :=
  RDat.θ_run_frame_track (Q' := _) cfgs (0 : Fin 1) launch0 defs₀ Variants.none (fun c => (dats m 0 c).toRRel fgt (Rl c)) m ρ main
    (fun c => (body_obligation m c).toRRel) (fun c w => by
      show (dats m 0 c).share w = fullShare
      unfold Dat.share
      split <;> rfl) (fun _ _ => rfl) (V m) (hmain m Variants.none) (A_eq m) (fun _ => .rfl) (fun _ => .rfl) (fun _ h => h)

/-- Every argument array ends as launched, -/
theorem kept_args {r : PUnit × MemSt nD τ sig (Elt F)} (h : RDat.FramePost cfg0 (fun c => (dats m 0 c).toRRel fgt (Rl c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    (RDat.FramePost.arr_in h c 2 rfl).trans ((A_eq m c 2).trans (V_main_arg2 m c)),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => kept_args m h.1 c, h.2⟩) (run_main m ρ)

end Cert.Mlp.Gen

end
-- ==== Proof.OutBlock.lean ====
/- The output projection, one block: what the kernel body leaves in its output block, as one formula of the blocks it reads. -/
module

public import proofs.«01_k».proof.Proof.Gen.OutIdeal.Frame
public import Idealize.ShloMosaic.Lib.Pipeline.Value
public import Idealize.ShloMosaic.Lib.Pointwise

@[expose] public section

noncomputable section

namespace Cert.OutIdeal.Hand

open Cert.OutIdeal Cert.OutIdeal.Gen Idealize.ShloMosaic Idealize.ShloMosaic.TcCoe Idealize.SL.Sem
open scoped BigOperators

/-- Element (row, column) of an output block: `x + gate * ((p₁ * a + p₂ * b) * w + bias)`, where `p₁` and `p₂` are the two
    products of codes and `a`, `b` the two row scales. -/
def blockAt (x0 : Vec Ideal S512x3072 .fp8e4m3) (x1 : Vec Ideal S512x12288 .fp8e4m3) (a b : Fin 512 → EReal)
    (x4 : Vec Ideal S3072x1024 .fp8e4m3) (x5 : Vec Ideal S12288x1024 .fp8e4m3) (x6 x7 : Vec Ideal S1x1024 .f32)
    (x8 : Vec Ideal S1x1x1024 .f32) (x9 : Vec Ideal S512x1024 .bf16) (y : S512x1024.Idx) : Elt Ideal .bf16 :=
  x9 (ix2 (y 0) (y 1)) + x8 (ix3 0 0 (y 1)) * (((∑ k : Fin 3072, x0 (ix2 (y 0) k) * x4 (ix2 k (y 1))) * a (y 0)
    + (∑ k : Fin 12288, x1 (ix2 (y 0) k) * x5 (ix2 k (y 1))) * b (y 0)) * x6 (ix2 0 (y 1)) + x7 (ix2 0 (y 1)))

/-- A rectangle's embedding of a local index, as the index a load through it reads. -/
theorem emb_eq_idx {s : Shape} (r : Rect s) (x : r.shape.Idx) : r.emb x = r.toLoadRect.idx x := rfl

set_option maxRecDepth 16384 in
/-- The body's output block is `blockAt` of its input blocks, when the two blocks of row scales hold one scale per row in
    every lane. -/
theorem out_eq (x0 : Vec Ideal S512x3072 .fp8e4m3) (x1 : Vec Ideal S512x12288 .fp8e4m3) (x2 x3 : Vec Ideal S512x128 .f32)
    (x4 : Vec Ideal S3072x1024 .fp8e4m3) (x5 : Vec Ideal S12288x1024 .fp8e4m3) (x6 x7 : Vec Ideal S1x1024 .f32)
    (x8 : Vec Ideal S1x1x1024 .f32) (x9 : Vec Ideal S512x1024 .bf16) (a b : Fin 512 → EReal)
    (ha : ∀ r l, x2 (ix2 r l) = a r) (hb : ∀ r l, x3 (ix2 r l) = b r) (y : S512x1024.Idx) :
    out0_10 x0 x1 x2 x3 x4 x5 x6 x7 x8 x9 y = blockAt x0 x1 a b x4 x5 x6 x7 x8 x9 y := by
  unfold_out out0_10
  refine View.canon_apply_of_pieces (Val := Elt Ideal) (e := .bf16) (blockAt x0 x1 a b x4 x5 x6 x7 x8 x9) _ ?_ y (cover0_10 _ _ _ _ _ _ _ _ y)
  simp only [List.forall_mem_cons, List.not_mem_nil, false_implies, implies_true, and_true]
  refine ⟨?_, ?_, ?_, ?_, ?_, ?_, ?_, ?_⟩
  all_goals
    intro x
    idx_vars x
    unfold_payloads
    pointwise [blockAt, ha, hb, emb_eq_idx, Nat.zero_add]
    try simp only [← Nat.add_assoc, Nat.reduceAdd]

end Cert.OutIdeal.Hand

end
-- ==== Proof.OutSpec.lean ====
/- The output projection as one formula of its arguments. Both programs are shown to compute it. -/
module

public import proofs.«01_k».proof.Proof.Rows

@[expose] public section

noncomputable section

namespace Cert.Spec

open Idealize.ShloMosaic
open scoped BigOperators

/-- Row `k` of the part of `w2` that multiplies the MLP codes: it starts at row 3072. -/
def mlpRow (k : Fin 12288) : Fin 15360 := ⟨3072 + k.val, by omega⟩

/-- Element (r, n) of the block's result: `x + gate * ((attn · w2 * attn scale + mlp · w2 * mlp scale) * w2 scale + b2)`, the
    two products over the upper 3072 and the lower 12288 rows of `w2`. -/
def outAt (x : (⟨3, ![4, 1536, 3072]⟩ : Shape).Idx → EReal) (gate : (⟨2, ![4, 3072]⟩ : Shape).Idx → EReal)
    (ac : (⟨3, ![4, 1536, 3072]⟩ : Shape).Idx → EReal) (sa : (⟨2, ![4, 1536]⟩ : Shape).Idx → EReal)
    (mc : (⟨3, ![4, 1536, 12288]⟩ : Shape).Idx → EReal) (sm : (⟨2, ![4, 1536]⟩ : Shape).Idx → EReal)
    (w2 : (⟨2, ![15360, 3072]⟩ : Shape).Idx → EReal) (ws b : (⟨1, ![3072]⟩ : Shape).Idx → EReal)
    (r : Fin 6144) (n : Fin 3072) : EReal :=
  x (ix3 (batch r) (place r) n) + gate (ix2 (batch r) n) *
    (((∑ k : Fin 3072, ac (ix3 (batch r) (place r) k) * w2 (ix2 ⟨k.val, by omega⟩ n)) * sa (ix2 (batch r) (place r))
      + (∑ k : Fin 12288, mc (ix3 (batch r) (place r) k) * w2 (ix2 (mlpRow k) n)) * sm (ix2 (batch r) (place r)))
      * ws (ix1 n) + b (ix1 n))

end Cert.Spec

end
-- ==== Proof.OutValue.lean ====
/- The output projection's kernel: its result array is `Spec.outAt` of the arguments. -/
module

public import proofs.«01_k».proof.Proof.OutBlock
public import proofs.«01_k».proof.Proof.OutSpec
public import proofs.«01_k».proof.Proof.Gen.OutIdeal.Value
public import Idealize.ShloMosaic.Lib.Pipeline.ValueKit
public import Idealize.ShloMosaic.Lib.StableHlo.Run

@[expose] public section

noncomputable section

namespace Cert.OutIdeal.Hand

open Cert.OutIdeal Cert.OutIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-! ## What the region finds in the arrays the host operations made -/

theorem V0 (c : Dev nD) : V m c main_v0 = shapeCast S6144x3072 (m ((c : Thread nD τ).loc main_arg2)) shapeCasts_S4x1536x3072_S6144x3072 := by
  dsimp only [V, hostOps0]; after_results; rfl

theorem V1 (c : Dev nD) : V m c main_v1 = shapeCast S6144x12288 (m ((c : Thread nD τ).loc main_arg4)) shapeCasts_S4x1536x12288_S6144x12288 := by
  dsimp only [V, hostOps0]; after_results; rfl

theorem V3 (c : Dev nD) : V m c main_v3 = broadcastInDim S6144x128 ![0, 1] bcast_S6144x1_S6144x128_0_1 (shapeCast S6144x1 (m ((c : Thread nD τ).loc main_arg3)) shapeCasts_S4x1536_S6144x1) := by
  dsimp only [V, hostOps0]; after_results; rfl

theorem V5 (c : Dev nD) : V m c main_v5 = broadcastInDim S6144x128 ![0, 1] bcast_S6144x1_S6144x128_0_1 (shapeCast S6144x1 (m ((c : Thread nD τ).loc main_arg5)) shapeCasts_S4x1536_S6144x1) := by
  dsimp only [V, hostOps0]; after_results; rfl

theorem V6 (c : Dev nD) : V m c main_v6 = broadcastInDim S1x3072 ![1] bcast_S3072_S1x3072_1 (m ((c : Thread nD τ).loc main_arg7)) := by
  dsimp only [V, hostOps0]; after_results

theorem V7 (c : Dev nD) : V m c main_v7 = broadcastInDim S1x3072 ![1] bcast_S3072_S1x3072_1 (m ((c : Thread nD τ).loc main_arg8)) := by
  dsimp only [V, hostOps0]; after_results

theorem V8 (c : Dev nD) : V m c main_v8 = broadcastInDim S4x1x3072 ![0, 2] bcast_S4x3072_S4x1x3072_0_2 (m ((c : Thread nD τ).loc main_arg1)) := by
  dsimp only [V, hostOps0]; after_results

theorem V9 (c : Dev nD) : V m c main_v9 = shapeCast S6144x3072 (m ((c : Thread nD τ).loc main_arg0)) shapeCasts_S4x1536x3072_S6144x3072 := by
  dsimp only [V, hostOps0]; after_results; rfl

/-! ## Which block each window holds at a point: row block `i`, column block `j` of the output block -/

theorem idx_facts : ∀ t : Fin cfg0.N, win0_0.index t = ![win0_10.index t 0, 0] ∧ win0_1.index t = ![win0_10.index t 0, 0]
    ∧ win0_2.index t = ![win0_10.index t 0, 0] ∧ win0_3.index t = ![win0_10.index t 0, 0]
    ∧ win0_4.index t = ![0, win0_10.index t 1] ∧ win0_5.index t = ![3072, 1024 * win0_10.index t 1]
    ∧ win0_6.index t = ![0, win0_10.index t 1] ∧ win0_7.index t = ![0, win0_10.index t 1]
    ∧ win0_8.index t = ![win0_10.index t 0 / 3, 0, win0_10.index t 1] ∧ win0_9.index t = ![win0_10.index t 0, win0_10.index t 1]
    ∧ win0_10.index t 0 < 12 ∧ win0_10.index t 1 < 3 :=
  (by decide +kernel : ∀ t : Fin grid0.N, _)

/-- The array row of row `r` of point `t`'s block. -/
def row (t : Fin cfg0.N) (r : Fin 512) : Fin 6144 := ⟨win0_10.index t 0 * 512 + r.val, by have := (idx_facts t).2.2.2.2.2.2.2.2.2.2.1; omega⟩
/-- The array column of column `n` of point `t`'s block. -/
def col (t : Fin cfg0.N) (n : Fin 1024) : Fin 3072 := ⟨win0_10.index t 1 * 1024 + n.val, by have := (idx_facts t).2.2.2.2.2.2.2.2.2.2.2; omega⟩

/-! ## Each block, read in the arguments -/

theorem blk0 (c : Dev nD) (t : Fin cfg0.N) (r : Fin 512) (k : Fin 3072) :
    (iblk m c 0 t : Vec Ideal S512x3072 .fp8e4m3) (ix2 r k) = m ((c : Thread nD τ).loc main_arg2) (ix3 (Spec.batch (row t r)) (Spec.place (row t r)) k) := by
  obtain ⟨e0, -⟩ := idx_facts t
  have e : (win0_0.blk t).view.emb (ix2 r k) = ix2 (row t r) k := by blk_ext [e0, row, col, Spec.mlpRow]
  blk_simp [iblk, e]
  refine (congrFun (V0 m c) _).trans ?_
  exact Spec.flat_apply _ _ _ _

theorem blk1 (c : Dev nD) (t : Fin cfg0.N) (r : Fin 512) (k : Fin 12288) :
    (iblk m c 1 t : Vec Ideal S512x12288 .fp8e4m3) (ix2 r k) = m ((c : Thread nD τ).loc main_arg4) (ix3 (Spec.batch (row t r)) (Spec.place (row t r)) k) := by
  obtain ⟨-, e0, -⟩ := idx_facts t
  have e : (win0_1.blk t).view.emb (ix2 r k) = ix2 (row t r) k := by blk_ext [e0, row, col, Spec.mlpRow]
  blk_simp [iblk, e]
  refine (congrFun (V1 m c) _).trans ?_
  exact Spec.flat_apply _ _ _ _

theorem blk2 (c : Dev nD) (t : Fin cfg0.N) (r : Fin 512) (k : Fin 128) :
    (iblk m c 2 t : Vec Ideal S512x128 .f32) (ix2 r k) = m ((c : Thread nD τ).loc main_arg3) (ix2 (Spec.batch (row t r)) (Spec.place (row t r))) := by
  obtain ⟨-, -, e0, -⟩ := idx_facts t
  have e : (win0_2.blk t).view.emb (ix2 r k) = ix2 (row t r) k := by blk_ext [e0, row, col, Spec.mlpRow]
  blk_simp [iblk, e]
  refine (congrFun (V3 m c) _).trans ?_
  exact Spec.lanes_apply _ _ _ _ _

theorem blk3 (c : Dev nD) (t : Fin cfg0.N) (r : Fin 512) (k : Fin 128) :
    (iblk m c 3 t : Vec Ideal S512x128 .f32) (ix2 r k) = m ((c : Thread nD τ).loc main_arg5) (ix2 (Spec.batch (row t r)) (Spec.place (row t r))) := by
  obtain ⟨-, -, -, e0, -⟩ := idx_facts t
  have e : (win0_3.blk t).view.emb (ix2 r k) = ix2 (row t r) k := by blk_ext [e0, row, col, Spec.mlpRow]
  blk_simp [iblk, e]
  refine (congrFun (V5 m c) _).trans ?_
  exact Spec.lanes_apply _ _ _ _ _

theorem blk4 (c : Dev nD) (t : Fin cfg0.N) (k : Fin 3072) (n : Fin 1024) :
    (iblk m c 4 t : Vec Ideal S3072x1024 .fp8e4m3) (ix2 k n) = m ((c : Thread nD τ).loc main_arg6) (ix2 ⟨k.val, by omega⟩ (col t n)) := by
  obtain ⟨-, -, -, -, e0, -⟩ := idx_facts t
  have e : (win0_4.blk t).view.emb (ix2 k n) = ix2 ⟨k.val, by omega⟩ (col t n) := by blk_ext [e0, row, col, Spec.mlpRow]
  blk_simp [iblk, e]
  exact congrFun (V_main_arg6 m c) _

theorem blk5 (c : Dev nD) (t : Fin cfg0.N) (k : Fin 12288) (n : Fin 1024) :
    (iblk m c 5 t : Vec Ideal S12288x1024 .fp8e4m3) (ix2 k n) = m ((c : Thread nD τ).loc main_arg6) (ix2 (Spec.mlpRow k) (col t n)) := by
  obtain ⟨-, -, -, -, -, e0, -⟩ := idx_facts t
  have e : (win0_5.blk t).view.emb (ix2 k n) = ix2 (Spec.mlpRow k) (col t n) := by
    funext a; apply Fin.ext
    match a with
    | ⟨0, _⟩ => show win0_5.index t 0 + 1 * k.val = 3072 + k.val
                rw [e0]; show 3072 + 1 * k.val = _; omega
    | ⟨1, _⟩ => show win0_5.index t 1 + 1 * n.val = win0_10.index t 1 * 1024 + n.val
                rw [e0]; show 1024 * win0_10.index t 1 + 1 * n.val = _; omega
  blk_simp [iblk, e]
  exact congrFun (V_main_arg6 m c) _

theorem blk6 (c : Dev nD) (t : Fin cfg0.N) (n : Fin 1024) :
    (iblk m c 6 t : Vec Ideal S1x1024 .f32) (ix2 0 n) = m ((c : Thread nD τ).loc main_arg7) (ix1 (col t n)) := by
  obtain ⟨-, -, -, -, -, -, e0, -⟩ := idx_facts t
  have e : (win0_6.blk t).view.emb (ix2 0 n) = ix2 0 (col t n) := by blk_ext [e0, row, col, Spec.mlpRow]
  blk_simp [iblk, e]
  refine (congrFun (V6 m c) _).trans ?_
  pointwise

theorem blk7 (c : Dev nD) (t : Fin cfg0.N) (n : Fin 1024) :
    (iblk m c 7 t : Vec Ideal S1x1024 .f32) (ix2 0 n) = m ((c : Thread nD τ).loc main_arg8) (ix1 (col t n)) := by
  obtain ⟨-, -, -, -, -, -, -, e0, -⟩ := idx_facts t
  have e : (win0_7.blk t).view.emb (ix2 0 n) = ix2 0 (col t n) := by blk_ext [e0, row, col, Spec.mlpRow]
  blk_simp [iblk, e]
  refine (congrFun (V7 m c) _).trans ?_
  pointwise

theorem blk8 (c : Dev nD) (t : Fin cfg0.N) (r : Fin 512) (n : Fin 1024) :
    (iblk m c 8 t : Vec Ideal S1x1x1024 .f32) (ix3 0 0 n) = m ((c : Thread nD τ).loc main_arg1) (ix2 (Spec.batch (row t r)) (col t n)) := by
  obtain ⟨-, -, -, -, -, -, -, -, e0, -⟩ := idx_facts t
  have e : (win0_8.blk t).view.emb (ix3 0 0 n) = ix3 (Spec.batch (row t r)) 0 (col t n) := by blk_ext [e0, row, col, Spec.batch]
  blk_simp [iblk, e]
  refine (congrFun (V8 m c) _).trans ?_
  pointwise

theorem blk9 (c : Dev nD) (t : Fin cfg0.N) (r : Fin 512) (n : Fin 1024) :
    (iblk m c 9 t : Vec Ideal S512x1024 .bf16) (ix2 r n) = m ((c : Thread nD τ).loc main_arg0) (ix3 (Spec.batch (row t r)) (Spec.place (row t r)) (col t n)) := by
  obtain ⟨-, -, -, -, -, -, -, -, -, e0, -⟩ := idx_facts t
  have e : (win0_9.blk t).view.emb (ix2 r n) = ix2 (row t r) (col t n) := by blk_ext [e0, row, col, Spec.mlpRow]
  blk_simp [iblk, e]
  refine (congrFun (V9 m c) _).trans ?_
  exact Spec.flat_apply _ _ _ _

/-! ## The result array -/

/-- Element (r, n) of the result, of device `c`'s arguments. -/
def resAt (c : Dev nD) (r : Fin 6144) (n : Fin 3072) : EReal :=
  Spec.outAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) r n

/-- The result array after the run holds `resAt` at every index: each point writes its block of it, and the blocks cover the array. -/
theorem final (c : Dev nD) : (dats m 0 c).arrAt 10 cfg0.N = fun i : S6144x3072.Idx => resAt m c (i 0) (i 1) := by
  refine (dats m 0 c).arrAt_eq_of_covers 10 _ (by decide +kernel) fun t _ y => ?_
  idx_vars y
  have e : (win0_10.blk t).view.emb (ix2 y0 y1) = ix2 (row t y0) (col t y1) := by blk_ext [row, col]
  blk_simp [e]
  rw [after0_10]
  refine (out_eq _ _ _ _ _ _ _ _ _ _ (fun r => m ((c : Thread nD τ).loc main_arg3) (ix2 (Spec.batch (row t r)) (Spec.place (row t r))))
    (fun r => m ((c : Thread nD τ).loc main_arg5) (ix2 (Spec.batch (row t r)) (Spec.place (row t r))))
    (blk2 m c t) (blk3 m c t) (ix2 y0 y1)).trans ?_
  refine Ideal.add_congr (blk9 m c t y0 y1) (Ideal.mul_congr (blk8 m c t y0 y1) (Ideal.add_congr (Ideal.mul_congr (Ideal.add_congr
    (Ideal.mul_congr (Finset.sum_congr rfl fun k _ => Ideal.mul_congr (blk0 m c t y0 k) (blk4 m c t k y1)) rfl)
    (Ideal.mul_congr (Finset.sum_congr rfl fun k _ => Ideal.mul_congr (blk1 m c t y0 k) (blk5 m c t k y1)) rfl))
    (blk6 m c t y1)) (blk7 m c t y1)))

end Cert.OutIdeal.Hand

end
-- ==== Proof.OutRefValue.lean ====
/- The output projection's reference: its result array is `Spec.outAt` of the arguments. -/
module

public import proofs.«01_k».proof.Proof.OutSpec
public import proofs.«01_k».proof.Proof.Gen.OutRefIdeal.Run
public import proofs.«01_k».proof.Proof.Gen.OutRefIdeal.Read
public import Idealize.ShloMosaic.Lib.Pipeline.ValueKit

@[expose] public section

noncomputable section

namespace Cert.OutRefIdeal.Hand

open Cert.OutRefIdeal Cert.OutRefIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-! ## What the region finds -/

theorem arr0 (c : Dev nD) : V m c main_v0 = shapeCast S6144x3072 (m ((c : Thread nD τ).loc main_arg2)) shapeCasts_S4x1536x3072_S6144x3072 := by
  simp only [V, Gen.V0, List.flatten_cons, List.flatten_nil, List.append_nil]; after_results; rfl

theorem arr1 (c : Dev nD) : V m c main_v1 = shapeCast S6144x12288 (m ((c : Thread nD τ).loc main_arg4)) shapeCasts_S4x1536x12288_S6144x12288 := by
  simp only [V, Gen.V0, List.flatten_cons, List.flatten_nil, List.append_nil]; after_results; rfl

/-! ## The two products the region computes -/

theorem idx_facts : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

theorem blk0 (c : Dev nD) (t : Fin cfg0.N) (r : Fin 6144) (k : Fin 3072) :
    (iblk m c 0 t : Vec Ideal S6144x3072 .fp8e4m3) (ix2 r k) = m ((c : Thread nD τ).loc main_arg2) (ix3 (Spec.batch r) (Spec.place r) k) := by
  obtain ⟨e0, -⟩ := idx_facts t
  have e : (win0_0.blk t).view.emb (ix2 r k) = ix2 r k := by blk_ext [e0]
  blk_simp [iblk, e]
  exact (congrFun (arr0 m c) _).trans (Spec.flat_apply _ _ _ _)

theorem blk1 (c : Dev nD) (t : Fin cfg0.N) (r : Fin 6144) (k : Fin 12288) :
    (iblk m c 1 t : Vec Ideal S6144x12288 .fp8e4m3) (ix2 r k) = m ((c : Thread nD τ).loc main_arg4) (ix3 (Spec.batch r) (Spec.place r) k) := by
  obtain ⟨-, e0, -⟩ := idx_facts t
  have e : (win0_1.blk t).view.emb (ix2 r k) = ix2 r k := by blk_ext [e0]
  blk_simp [iblk, e]
  exact (congrFun (arr1 m c) _).trans (Spec.flat_apply _ _ _ _)

theorem blk2 (c : Dev nD) (t : Fin cfg0.N) (k : Fin 15360) (n : Fin 3072) :
    (iblk m c 2 t : Vec Ideal S15360x3072 .fp8e4m3) (ix2 k n) = m ((c : Thread nD τ).loc main_arg6) (ix2 k n) := by
  obtain ⟨-, -, e0, -⟩ := idx_facts t
  have e : (win0_2.blk t).view.emb (ix2 k n) = ix2 k n := by blk_ext [e0]
  blk_simp [iblk, e]
  exact congrFun (V_main_arg6 m c) _

/-- The first product at row `r` and column `n`: over the upper 3072 rows of `w2`. -/
def prodAttn (ac : S4x1536x3072.Idx → EReal) (w2 : S15360x3072.Idx → EReal) (r : Fin 6144) (n : Fin 3072) : EReal :=
  ∑ k : Fin 3072, ac (ix3 (Spec.batch r) (Spec.place r) k) * w2 (ix2 ⟨k.val, by omega⟩ n)
/-- The second product: over the lower 12288 rows of `w2`. -/
def prodMlp (mc : S4x1536x12288.Idx → EReal) (w2 : S15360x3072.Idx → EReal) (r : Fin 6144) (n : Fin 3072) : EReal :=
  ∑ k : Fin 12288, mc (ix3 (Spec.batch r) (Spec.place r) k) * w2 (ix2 (Spec.mlpRow k) n)

/-- The region leaves the first product in its first result array. -/
theorem prod1 (c : Dev nD) : Value.reg_main_v2_0 m c
    = fun i : S6144x3072.Idx => prodAttn (m ((c : Thread nD τ).loc main_arg2)) (m ((c : Thread nD τ).loc main_arg6)) (i 0) (i 1) := by
  refine (dats m 0 c).arrAt_eq_of_covers 3 _ (by decide +kernel) fun t _ y => ?_
  idx_vars y
  obtain ⟨-, -, -, e0, -⟩ := idx_facts t
  have e : (win0_3.blk t).view.emb (ix2 y0 y1) = ix2 y0 y1 := by blk_ext [e0]
  blk_simp [e]
  rw [after0_3]
  unfold out0_3
  rw [View.canon_unit_zero (by decide)]
  unfold_payloads
  pointwise
  exact Finset.sum_congr (M := EReal) rfl fun k _ => Ideal.mul_congr (blk0 m c t y0 k) (blk2 m c t _ y1)

/-- The region leaves the second product in its second result array. -/
theorem prod2 (c : Dev nD) : Value.reg_main_v2_1 m c
    = fun i : S6144x3072.Idx => prodMlp (m ((c : Thread nD τ).loc main_arg4)) (m ((c : Thread nD τ).loc main_arg6)) (i 0) (i 1) := by
  refine (dats m 0 c).arrAt_eq_of_covers 4 _ (by decide +kernel) fun t _ y => ?_
  idx_vars y
  obtain ⟨-, -, -, -, e0⟩ := idx_facts t
  have e : (win0_4.blk t).view.emb (ix2 y0 y1) = ix2 y0 y1 := by blk_ext [e0]
  blk_simp [e]
  rw [after0_4]
  unfold out0_4
  rw [View.canon_unit_zero (by decide)]
  unfold_payloads
  pointwise
  exact Finset.sum_congr (M := EReal) rfl fun k _ => Ideal.mul_congr (blk1 m c t y0 k) (blk2 m c t _ y1)

/-! ## The host operations after the region -/

/-- The result of the host operations, at row `r` and column `n`, of the arguments and the two products. -/
theorem tail_apply (x0 : (⟨S4x1536x3072, .bf16⟩ : BufTy).Contents (Elt Ideal)) (x1 : (⟨S4x3072, .f32⟩ : BufTy).Contents (Elt Ideal))
    (x3 x5 : (⟨S4x1536, .f32⟩ : BufTy).Contents (Elt Ideal)) (x7 x8 : (⟨S3072, .f32⟩ : BufTy).Contents (Elt Ideal))
    (r0 r1 : (⟨S6144x3072, .f32⟩ : BufTy).Contents (Elt Ideal)) (r : Fin 6144) (n : Fin 3072) :
    Read.val_main_v24 x0 x1 x3 x5 x7 x8 r0 r1 (ix2 r n)
      = x0 (ix3 (Spec.batch r) (Spec.place r) n) + x1 (ix2 (Spec.batch r) n) *
        ((r0 (ix2 r n) * x3 (ix2 (Spec.batch r) (Spec.place r)) + r1 (ix2 r n) * x5 (ix2 (Spec.batch r) (Spec.place r)))
          * x7 (ix1 n) + x8 (ix1 n)) := by
  refine (Spec.flat_apply (N := 3072) _ _ r n).trans ?_
  have h0 := Spec.unflat_apply (N := 3072) r0 shapeCasts_S6144x3072_S4x1536x3072 (Spec.batch r) (Spec.place r) n
  have h1 := Spec.unflat_apply (N := 3072) r1 shapeCasts_S6144x3072_S4x1536x3072 (Spec.batch r) (Spec.place r) n
  rw [Spec.flatRow_batch_place] at h0 h1
  rw [← h0, ← h1]
  generalize Spec.batch r = b
  generalize Spec.place r = s
  pointwise [Read.val_main_v23, Read.val_main_v22, Read.val_main_v21, Read.val_main_v20, Read.val_main_v19, Read.val_main_v18, Read.val_main_v17, Read.val_main_v16, Read.val_main_v15, Read.val_main_v14, Read.val_main_v13, Read.val_main_v12, Read.val_main_v11, Read.val_main_v10, Read.val_main_v9, Read.val_main_v8, Read.val_main_v7, Read.val_main_v6, Read.val_main_v5, Read.val_main_v4, Read.val_main_v3]

end Cert.OutRefIdeal.Hand

end
-- ==== Proof.OutProof.lean ====
/- The output projection: the kernel and its reference end with equal results, as extended reals. -/
module

public import proofs.«01_k».proof.Defs
public import proofs.«01_k».proof.Proof.OutValue
public import proofs.«01_k».proof.Proof.OutRefValue

@[expose] public section

noncomputable section

namespace Cert.Proof

open Idealize.ShloMosaic Idealize.SL.Sem

/-- The reference's result array is `Spec.outAt` of its arguments at every index. -/
theorem out_ref (m : (ℓ : Loc Cert.OutRefIdeal.nD Cert.OutRefIdeal.τ Cert.OutRefIdeal.sig) → Buf (Elt Ideal) ℓ) (c : Dev Cert.OutRefIdeal.nD) :
    Cert.OutRefIdeal.Read.val_main_v24 (F := Ideal) (m ((c.tc : Thread Cert.OutRefIdeal.nD Cert.OutRefIdeal.τ).loc Cert.OutRefIdeal.main_arg0))
      (m ((c.tc : Thread Cert.OutRefIdeal.nD Cert.OutRefIdeal.τ).loc Cert.OutRefIdeal.main_arg1))
      (m ((c.tc : Thread Cert.OutRefIdeal.nD Cert.OutRefIdeal.τ).loc Cert.OutRefIdeal.main_arg3))
      (m ((c.tc : Thread Cert.OutRefIdeal.nD Cert.OutRefIdeal.τ).loc Cert.OutRefIdeal.main_arg5))
      (m ((c.tc : Thread Cert.OutRefIdeal.nD Cert.OutRefIdeal.τ).loc Cert.OutRefIdeal.main_arg7))
      (m ((c.tc : Thread Cert.OutRefIdeal.nD Cert.OutRefIdeal.τ).loc Cert.OutRefIdeal.main_arg8))
      (Cert.OutRefIdeal.Value.reg_main_v2_0 m c) (Cert.OutRefIdeal.Value.reg_main_v2_1 m c)
    = fun i : (⟨2, ![6144, 3072]⟩ : Shape).Idx =>
      Spec.outAt (m ((c.tc : Thread Cert.OutRefIdeal.nD Cert.OutRefIdeal.τ).loc Cert.OutRefIdeal.main_arg0))
        (m ((c.tc : Thread Cert.OutRefIdeal.nD Cert.OutRefIdeal.τ).loc Cert.OutRefIdeal.main_arg1))
        (m ((c.tc : Thread Cert.OutRefIdeal.nD Cert.OutRefIdeal.τ).loc Cert.OutRefIdeal.main_arg2))
        (m ((c.tc : Thread Cert.OutRefIdeal.nD Cert.OutRefIdeal.τ).loc Cert.OutRefIdeal.main_arg3))
        (m ((c.tc : Thread Cert.OutRefIdeal.nD Cert.OutRefIdeal.τ).loc Cert.OutRefIdeal.main_arg4))
        (m ((c.tc : Thread Cert.OutRefIdeal.nD Cert.OutRefIdeal.τ).loc Cert.OutRefIdeal.main_arg5))
        (m ((c.tc : Thread Cert.OutRefIdeal.nD Cert.OutRefIdeal.τ).loc Cert.OutRefIdeal.main_arg6))
        (m ((c.tc : Thread Cert.OutRefIdeal.nD Cert.OutRefIdeal.τ).loc Cert.OutRefIdeal.main_arg7))
        (m ((c.tc : Thread Cert.OutRefIdeal.nD Cert.OutRefIdeal.τ).loc Cert.OutRefIdeal.main_arg8)) (i 0) (i 1) := by
  funext i
  idx_vars i
  refine (Cert.OutRefIdeal.Hand.tail_apply _ _ _ _ _ _ _ _ i0 i1).trans ?_
  rw [Cert.OutRefIdeal.Hand.prod1, Cert.OutRefIdeal.Hand.prod2]
  rfl

/-- `Spec.outAt` is the common result. -/
theorem out_algebraic : Cert.algebraic_OutIdeal_OutRefIdeal := by
  intro m g m' g' _ hagree
  refine ⟨fun c => fun i : (⟨2, ![6144, 3072]⟩ : Shape).Idx => Cert.OutIdeal.Hand.resAt m c (i 0) (i 1),
    (θ_run _ _ _).mono (fun _ h c => ⟨(h c).1.trans (Cert.OutIdeal.Hand.final m c), (h c).2⟩) (Cert.OutIdeal.Value.run_blocks m g),
    (θ_run _ _ _).mono (fun _ h c => ⟨(h c).1.trans ((out_ref m' c).trans ?_), (h c).2⟩) (Cert.OutRefIdeal.Value.run m' g')⟩
  obtain ⟨e0, e1, e2, e3, e4, e5, e6, e7, e8⟩ := hagree c
  rw [e0, e1, e2, e3, e4, e5, e6, e7, e8]
  rfl

end Cert.Proof

end
-- ==== Proof.lean ====
module

public import proofs.«01_k».proof.Defs
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutRefIdeal.Skeleton
public import proofs.«01_k».proof.Proof.Gen.OutRefIdeal.Launch
public import proofs.«01_k».proof.Proof.Gen.OutRefIdeal.Points
public import proofs.«01_k».proof.Proof.Gen.OutRefIdeal.Frame
public import proofs.«01_k».proof.Proof.Gen.OutIdeal.Value
public import proofs.«01_k».proof.Proof.Gen.OutRefIdeal.Run
public import proofs.«01_k».proof.Proof.Gen.OutRefIdeal.Read
public import proofs.«01_k».proof.Proof.Gen.Vp.Frame
public import proofs.«01_k».proof.Proof.Gen.VpIdeal.Frame
public import proofs.«01_k».proof.Proof.Gen.VpRefIdeal.Frame
public import proofs.«01_k».proof.Proof.Gen.VpIdeal.Value
public import proofs.«01_k».proof.Proof.Gen.VpRefIdeal.Run
public import proofs.«01_k».proof.Proof.Gen.VpRefIdeal.Read
public import proofs.«01_k».proof.Proof.Gen.Qk.Frame
public import proofs.«01_k».proof.Proof.Gen.QkIdeal.Frame
public import proofs.«01_k».proof.Proof.Gen.QkRefIdeal.Frame
public import proofs.«01_k».proof.Proof.Gen.QkIdeal.Value
public import proofs.«01_k».proof.Proof.Gen.QkRefIdeal.Run
public import proofs.«01_k».proof.Proof.Gen.QkRefIdeal.Read
public import proofs.«01_k».proof.Proof.Gen.Mlp.Frame
public import proofs.«01_k».proof.Proof.Gen.MlpIdeal.Frame
public import proofs.«01_k».proof.Proof.Gen.MlpIdeal.Skeleton
public import proofs.«01_k».proof.Proof.Gen.Mlp.Skeleton
public import proofs.«01_k».proof.Proof.Gen.MlpRefIdeal.Frame
public import proofs.«01_k».proof.Proof.Gen.MlpRefIdeal.Run
public import proofs.«01_k».proof.Proof.Gen.MlpRefIdeal.Read
public import proofs.«01_k».proof.Proof.VpProof
public import proofs.«01_k».proof.Proof.QkProof
public import proofs.«01_k».proof.Proof.MlpProof
public import proofs.«01_k».proof.Proof.MlpFrame
public import proofs.«01_k».proof.Proof.OutProof
public import Idealize.ShloMosaic.Adequacy
public import Idealize.ShloMosaic.Init

@[expose] public section

noncomputable section

namespace Cert.Proof

open Idealize.ShloMosaic Idealize.SL.Sem Cert.Out

theorem claim : Cert.Claim := ⟨Cert.Vp.Gen.facts, Cert.VpIdeal.Gen.facts, Cert.VpRefIdeal.Gen.facts, Cert.Qk.Gen.facts, Cert.QkIdeal.Gen.facts, Cert.QkRefIdeal.Gen.facts, Cert.Mlp.Gen.facts, Cert.MlpIdeal.Gen.facts, Cert.MlpRefIdeal.Gen.facts, Cert.Out.Gen.facts, Cert.OutIdeal.Gen.facts, Cert.OutRefIdeal.Gen.facts,
  fun m ρ _ => Cert.Vp.Gen.frame m ρ, fun m ρ _ => Cert.VpIdeal.Gen.frame m ρ, fun m ρ _ => Cert.VpRefIdeal.Gen.frame m ρ,
  fun m ρ _ => Cert.Qk.Gen.frame m ρ, fun m ρ _ => Cert.QkIdeal.Gen.frame m ρ, fun m ρ _ => Cert.QkRefIdeal.Gen.frame m ρ,
  fun m ρ _ => Cert.Mlp.Gen.frame m ρ, fun m ρ _ => Cert.MlpIdeal.Gen.frame m ρ, fun m ρ _ => Cert.MlpRefIdeal.Gen.frame m ρ,
  fun m ρ _ => Cert.Out.Gen.frame m ρ, fun m ρ _ => Cert.OutIdeal.Gen.frame m ρ, fun m ρ _ => Cert.OutRefIdeal.Gen.frame m ρ,
  trivial, vp_algebraic, trivial, qk_algebraic, trivial, mlp_algebraic, trivial, out_algebraic⟩

end Cert.Proof

end
